-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S16384x1000 : Shape := ⟨2, ![16384, 1000]⟩
abbrev S16384 : Shape := ⟨1, ![16384]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel

variable [Facts]

def fn {F : FTy → Type} [FloatOps F] (main_arg0 : FVec F S16384x1000 .f32) (main_arg1 : IVec S16384x1000 32) (main_arg2 : IVec S16384 32) : IVec S_ 1 :=
  let main_cst : FVec F S_ .f32 := constant S_ .f32 0x00000000#32
  let main_v0 : FVec F S16384x1000 .f32 := broadcastInDim S16384x1000 ![] bcast_S_S16384x1000 main_cst
  let main_v1 : IVec S16384x1000 1 := cmpf .oge main_arg0 main_v0
  let main_c : IVec S_ 1 := constantI S_ 1 1#1
  let main_v2 : IVec S_ 1 := (fun x v => Host.reduce IntOp.andi x v reducesTo_S16384x1000_S_d0_1 h_S_) main_v1 main_c
  let main_c_0 : IVec S_ 32 := constantI S_ 32 0#32
  let main_v3 : IVec S16384x1000 32 := broadcastInDim S16384x1000 ![] bcast_S_S16384x1000 main_c_0
  let main_v4 : IVec S16384x1000 1 := cmpi .eq main_arg1 main_v3
  let main_c_1 : IVec S_ 1 := constantI S_ 1 1#1
  let main_v5 : IVec S_ 1 := (fun x v => Host.reduce IntOp.andi x v reducesTo_S16384x1000_S_d0_1 h_S_) main_v4 main_c_1
  let main_v6 : IVec S_ 1 := andi main_v2 main_v5
  main_v6
-- ==== Kernel.lean ====
abbrev S16384x1000 : Shape := ⟨2, ![16384, 1000]⟩
abbrev S16384 : Shape := ⟨1, ![16384]⟩
abbrev S1000x16384 : Shape := ⟨2, ![1000, 16384]⟩
abbrev S1x16384 : Shape := ⟨2, ![1, 16384]⟩
abbrev S1024x512 : Shape := ⟨2, ![1024, 512]⟩
abbrev S1x512 : Shape := ⟨2, ![1, 512]⟩
abbrev S1000x512 : Shape := ⟨2, ![1000, 512]⟩
abbrev S128x8x512 : Shape := ⟨3, ![128, 8, 512]⟩
abbrev S8x512 : Shape := ⟨2, ![8, 512]⟩
abbrev S1x8x512 : Shape := ⟨3, ![1, 8, 512]⟩
abbrev S512 : Shape := ⟨1, ![512]⟩

abbrev nBuf : Space → Nat
  | .hbm => 9
  | .vmem => 9
  | .smem => 0
  | _ => 0

abbrev bufTy : (tb : Table) → Fin (tcTables nBuf tb) → BufTy
  | .hbm, ⟨0, _⟩ => ⟨S16384x1000, .f32⟩
  | .hbm, ⟨1, _⟩ => ⟨S16384x1000, .i32⟩
  | .hbm, ⟨2, _⟩ => ⟨S16384, .i32⟩
  | .hbm, ⟨3, _⟩ => ⟨S1000x16384, .f32⟩
  | .hbm, ⟨4, _⟩ => ⟨S1x16384, .i32⟩
  | .hbm, ⟨5, _⟩ => ⟨S1x16384, .i32⟩
  | .hbm, ⟨6, _⟩ => ⟨S1000x16384, .i32⟩
  | .hbm, ⟨7, _⟩ => ⟨S16384, .i32⟩
  | .hbm, ⟨8, _⟩ => ⟨S16384x1000, .i32⟩
  | .local _ .vmem, ⟨0, _⟩ => ⟨S1024x512, .f32⟩
  | .local _ .vmem, ⟨1, _⟩ => ⟨S1024x512, .f32⟩
  | .local _ .vmem, ⟨2, _⟩ => ⟨S1x512, .i32⟩
  | .local _ .vmem, ⟨3, _⟩ => ⟨S1x512, .i32⟩
  | .local _ .vmem, ⟨4, _⟩ => ⟨S1x512, .i32⟩
  | .local _ .vmem, ⟨5, _⟩ => ⟨S1x512, .i32⟩
  | .local _ .vmem, ⟨6, _⟩ => ⟨S1000x512, .i32⟩
  | .local _ .vmem, ⟨7, _⟩ => ⟨S1000x512, .i32⟩
  | .local _ .vmem, ⟨8, _⟩ => ⟨S128x8x512, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_1490 : BitVec 32 := 0#32
  let c13_i32_1491 : BitVec 32 := 13#32
  let v3059 : BitVec 32 := Scalar.addi c0_i32_1490 c13_i32_1491
  let c1_i32_1492 : BitVec 32 := 1#32
  ⟨c0_i32_1490, v3059, c1_i32_1492⟩
def k0_off1 (k0_t1 : Fin k0_t1_loop.trips) (c0_i32_1504 : BitVec 32) : Fin 3 → Nat :=
  let c0_i32_1490 : BitVec 32 := 0#32
  let c1_i32_1492 : BitVec 32 := 1#32
  let arg6 : BitVec 32 := Scf.iv c0_i32_1490 c1_i32_1492 k0_t1
  let c8_i32_1503 : BitVec 32 := 8#32
  let v3072 : BitVec 32 := Scalar.muli arg6 c8_i32_1503
  let v3073 : BitVec 32 := Scalar.addi v3072 c0_i32_1504
  let v3074 : Index := Scalar.indexCast v3073
  let c0_1505 : Index := 0#32
  let c0_1506 : Index := 0#32
  ![v3074.toNat, 0, 0]
@[reducible] def k0_t2_loop : Scf.Loop 32 :=
  let c13_i32_1494 : BitVec 32 := 13#32
  let c3_i32_1495 : BitVec 32 := 3#32
  let v3061 : BitVec 32 := Scalar.addi c13_i32_1494 c3_i32_1495
  let c1_i32_1496 : BitVec 32 := 1#32
  ⟨c13_i32_1494, v3061, c1_i32_1496⟩
def k0_off2 (k0_t2 : Fin k0_t2_loop.trips) (c0_i32_1504 : BitVec 32) : Fin 3 → Nat :=
  let c13_i32_1494 : BitVec 32 := 13#32
  let c1_i32_1496 : BitVec 32 := 1#32
  let arg6 : BitVec 32 := Scf.iv c13_i32_1494 c1_i32_1496 k0_t2
  let c8_i32_1503 : BitVec 32 := 8#32
  let v3072 : BitVec 32 := Scalar.muli arg6 c8_i32_1503
  let v3073 : BitVec 32 := Scalar.addi v3072 c0_i32_1504
  let v3074 : Index := Scalar.indexCast v3073
  let c0_1505 : Index := 0#32
  let c0_1506 : Index := 0#32
  ![v3074.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x1000 : Shape := ⟨2, ![16384, 1000]⟩
abbrev S16384 : Shape := ⟨1, ![16384]⟩
abbrev S_ : Shape := ⟨0, ![]⟩
abbrev S1 : Shape := ⟨1, ![1]⟩
abbrev S2 : Shape := ⟨1, ![2]⟩
abbrev S16384x1 : Shape := ⟨2, ![16384, 1]⟩
abbrev S16384x2 : Shape := ⟨2, ![16384, 2]⟩
abbrev S1000 : Shape := ⟨1, ![1000]⟩
abbrev S1x1 : Shape := ⟨2, ![1, 1]⟩

abbrev nBuf : Space → Nat
  | .hbm => 552
  | .vmem => 0
  | .smem => 0
  | _ => 0

abbrev hbmTy0_0 (i : Nat) : BufTy := match i % 128 with
  | 0 => ⟨S16384x1000, .f32⟩
  | 1 => ⟨S16384x1000, .i32⟩
  | 2 => ⟨S16384, .i32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S16384, .i32⟩
  | 14 => ⟨S_, .i32⟩
  | 15 => ⟨S16384, .i32⟩
  | 16 => ⟨S16384, .i32⟩
  | 17 => ⟨S16384x1, .i32⟩
  | 18 => ⟨S_, .i32⟩
  | 19 => ⟨S16384, .i32⟩
  | 20 => ⟨S16384, .i32⟩
  | 21 => ⟨S16384x1, .i32⟩
  | 22 => ⟨S16384x2, .i32⟩
  | 23 => ⟨S1, .i32⟩
  | 24 => ⟨S_, .i32⟩
  | 25 => ⟨S1, .i32⟩
  | 26 => ⟨S_, .i32⟩
  | 27 => ⟨S16384x1, .i32⟩
  | 28 => ⟨S16384x1, .i32⟩
  | 29 => ⟨S_, .i32⟩
  | 30 => ⟨S_, .i32⟩
  | 31 => ⟨S_, .i32⟩
  | 32 => ⟨S16384x1, .i32⟩
  | 33 => ⟨S16384x1, .i32⟩
  | 34 => ⟨S16384x1, .i32⟩
  | 35 => ⟨S16384x1, .i32⟩
  | 36 => ⟨S16384x1, .i32⟩
  | 37 => ⟨S_, .i32⟩
  | 38 => ⟨S16384x1, .i32⟩
  | 39 => ⟨S16384x1, .i32⟩
  | 40 => ⟨S_, .i32⟩
  | 41 => ⟨S16384x1, .i32⟩
  | 42 => ⟨S16384x1, .i32⟩
  | 43 => ⟨S16384x1, .i32⟩
  | 44 => ⟨S16384x1, .i32⟩
  | 45 => ⟨S16384x1, .i32⟩
  | 46 => ⟨S_, .i32⟩
  | 47 => ⟨S16384x1, .i32⟩
  | 48 => ⟨S16384x1, .i32⟩
  | 49 => ⟨S_, .i32⟩
  | 50 => ⟨S16384x1, .i32⟩
  | 51 => ⟨S16384x1, .i32⟩
  | 52 => ⟨S16384x1, .i32⟩
  | 53 => ⟨S16384x1, .i32⟩
  | 54 => ⟨S16384x1, .i32⟩
  | 55 => ⟨S_, .i32⟩
  | 56 => ⟨S16384x1, .i32⟩
  | 57 => ⟨S16384x1, .i32⟩
  | 58 => ⟨S_, .i32⟩
  | 59 => ⟨S16384x1, .i32⟩
  | 60 => ⟨S16384x1, .i32⟩
  | 61 => ⟨S16384x1, .i32⟩
  | 62 => ⟨S16384x1, .i32⟩
  | 63 => ⟨S16384x1, .i32⟩
  | 64 => ⟨S_, .i32⟩
  | 65 => ⟨S16384x1, .i32⟩
  | 66 => ⟨S16384x1, .i32⟩
  | 67 => ⟨S_, .i32⟩
  | 68 => ⟨S16384x1, .i32⟩
  | 69 => ⟨S16384x1, .i32⟩
  | 70 => ⟨S16384x1, .i32⟩
  | 71 => ⟨S16384x1, .i32⟩
  | 72 => ⟨S16384x1, .i32⟩
  | 73 => ⟨S16384x1, .i32⟩
  | 74 => ⟨S16384x1, .i32⟩
  | 75 => ⟨S16384x1, .i32⟩
  | 76 => ⟨S_, .i32⟩
  | 77 => ⟨S16384x1, .i32⟩
  | 78 => ⟨S16384x1, .i32⟩
  | 79 => ⟨S16384x1, .i32⟩
  | 80 => ⟨S_, .i32⟩
  | 81 => ⟨S16384x1, .i32⟩
  | 82 => ⟨S16384x1, .i32⟩
  | 83 => ⟨S_, .i32⟩
  | 84 => ⟨S16384x1, .i32⟩
  | 85 => ⟨S16384x1, .i32⟩
  | 86 => ⟨S16384x1, .i32⟩
  | 87 => ⟨S16384x1, .i32⟩
  | 88 => ⟨S16384x1, .i32⟩
  | 89 => ⟨S_, .i32⟩
  | 90 => ⟨S16384x1, .i32⟩
  | 91 => ⟨S16384x1, .i32⟩
  | 92 => ⟨S_, .i32⟩
  | 93 => ⟨S16384x1, .i32⟩
  | 94 => ⟨S16384x1, .i32⟩
  | 95 => ⟨S16384x1, .i32⟩
  | 96 => ⟨S16384x1, .i32⟩
  | 97 => ⟨S16384x1, .i32⟩
  | 98 => ⟨S_, .i32⟩
  | 99 => ⟨S16384x1, .i32⟩
  | 100 => ⟨S16384x1, .i32⟩
  | 101 => ⟨S_, .i32⟩
  | 102 => ⟨S16384x1, .i32⟩
  | 103 => ⟨S16384x1, .i32⟩
  | 104 => ⟨S16384x1, .i32⟩
  | 105 => ⟨S16384x1, .i32⟩
  | 106 => ⟨S16384x1, .i32⟩
  | 107 => ⟨S_, .i32⟩
  | 108 => ⟨S16384x1, .i32⟩
  | 109 => ⟨S16384x1, .i32⟩
  | 110 => ⟨S_, .i32⟩
  | 111 => ⟨S16384x1, .i32⟩
  | 112 => ⟨S16384x1, .i32⟩
  | 113 => ⟨S16384x1, .i32⟩
  | 114 => ⟨S16384x1, .i32⟩
  | 115 => ⟨S16384x1, .i32⟩
  | 116 => ⟨S16384x1, .i32⟩
  | 117 => ⟨S16384x1, .i32⟩
  | 118 => ⟨S16384x1, .i32⟩
  | 119 => ⟨S_, .i32⟩
  | 120 => ⟨S16384x1, .i32⟩
  | 121 => ⟨S16384x1, .i32⟩
  | 122 => ⟨S16384x1, .i32⟩
  | 123 => ⟨S_, .i32⟩
  | 124 => ⟨S16384x1, .i32⟩
  | 125 => ⟨S16384x1, .i32⟩
  | 126 => ⟨S_, .i32⟩
  | 127 => ⟨S16384x1, .i32⟩
  | _ => ⟨S16384x1000, .f32⟩

abbrev hbmTy0_1 (i : Nat) : BufTy := match i % 128 with
  | 0 => ⟨S16384x1, .i32⟩
  | 1 => ⟨S16384x1, .i32⟩
  | 2 => ⟨S16384x1, .i32⟩
  | 3 => ⟨S16384x1, .i32⟩
  | 4 => ⟨S_, .i32⟩
  | 5 => ⟨S16384x1, .i32⟩
  | 6 => ⟨S16384x1, .i32⟩
  | 7 => ⟨S_, .i32⟩
  | 8 => ⟨S16384x1, .i32⟩
  | 9 => ⟨S16384x1, .i32⟩
  | 10 => ⟨S16384x1, .i32⟩
  | 11 => ⟨S16384x1, .i32⟩
  | 12 => ⟨S16384x1, .i32⟩
  | 13 => ⟨S_, .i32⟩
  | 14 => ⟨S16384x1, .i32⟩
  | 15 => ⟨S16384x1, .i32⟩
  | 16 => ⟨S_, .i32⟩
  | 17 => ⟨S16384x1, .i32⟩
  | 18 => ⟨S16384x1, .i32⟩
  | 19 => ⟨S16384x1, .i32⟩
  | 20 => ⟨S16384x1, .i32⟩
  | 21 => ⟨S16384x1, .i32⟩
  | 22 => ⟨S_, .i32⟩
  | 23 => ⟨S16384x1, .i32⟩
  | 24 => ⟨S16384x1, .i32⟩
  | 25 => ⟨S_, .i32⟩
  | 26 => ⟨S16384x1, .i32⟩
  | 27 => ⟨S16384x1, .i32⟩
  | 28 => ⟨S16384x1, .i32⟩
  | 29 => ⟨S16384x1, .i32⟩
  | 30 => ⟨S16384x1, .i32⟩
  | 31 => ⟨S16384x1, .i32⟩
  | 32 => ⟨S16384x1, .i32⟩
  | 33 => ⟨S16384x1, .i32⟩
  | 34 => ⟨S_, .i32⟩
  | 35 => ⟨S16384x1, .i32⟩
  | 36 => ⟨S16384x1, .i32⟩
  | 37 => ⟨S16384x1, .i32⟩
  | 38 => ⟨S_, .i32⟩
  | 39 => ⟨S16384x1, .i32⟩
  | 40 => ⟨S16384x1, .i32⟩
  | 41 => ⟨S_, .i32⟩
  | 42 => ⟨S16384x1, .i32⟩
  | 43 => ⟨S16384x1, .i32⟩
  | 44 => ⟨S16384x1, .i32⟩
  | 45 => ⟨S16384x1, .i32⟩
  | 46 => ⟨S16384x1, .i32⟩
  | 47 => ⟨S_, .i32⟩
  | 48 => ⟨S16384x1, .i32⟩
  | 49 => ⟨S16384x1, .i32⟩
  | 50 => ⟨S_, .i32⟩
  | 51 => ⟨S16384x1, .i32⟩
  | 52 => ⟨S16384x1, .i32⟩
  | 53 => ⟨S16384x1, .i32⟩
  | 54 => ⟨S16384x1, .i32⟩
  | 55 => ⟨S16384x1, .i32⟩
  | 56 => ⟨S_, .i32⟩
  | 57 => ⟨S16384x1, .i32⟩
  | 58 => ⟨S16384x1, .i32⟩
  | 59 => ⟨S_, .i32⟩
  | 60 => ⟨S16384x1, .i32⟩
  | 61 => ⟨S16384x1, .i32⟩
  | 62 => ⟨S16384x1, .i32⟩
  | 63 => ⟨S16384x1, .i32⟩
  | 64 => ⟨S16384x1, .i32⟩
  | 65 => ⟨S_, .i32⟩
  | 66 => ⟨S16384x1, .i32⟩
  | 67 => ⟨S16384x1, .i32⟩
  | 68 => ⟨S_, .i32⟩
  | 69 => ⟨S16384x1, .i32⟩
  | 70 => ⟨S16384x1, .i32⟩
  | 71 => ⟨S16384x1, .i32⟩
  | 72 => ⟨S16384x1, .i32⟩
  | 73 => ⟨S16384x1, .i32⟩
  | 74 => ⟨S16384x1, .i32⟩
  | 75 => ⟨S16384x1, .i32⟩
  | 76 => ⟨S16384x1, .i32⟩
  | 77 => ⟨S_, .i32⟩
  | 78 => ⟨S16384x1, .i32⟩
  | 79 => ⟨S16384x1, .i32⟩
  | 80 => ⟨S16384x1, .i32⟩
  | 81 => ⟨S_, .i32⟩
  | 82 => ⟨S16384x1, .i32⟩
  | 83 => ⟨S16384x1, .i32⟩
  | 84 => ⟨S_, .i32⟩
  | 85 => ⟨S16384x1, .i32⟩
  | 86 => ⟨S16384x1, .i32⟩
  | 87 => ⟨S16384x1, .i32⟩
  | 88 => ⟨S16384x1, .i32⟩
  | 89 => ⟨S16384x1, .i32⟩
  | 90 => ⟨S_, .i32⟩
  | 91 => ⟨S16384x1, .i32⟩
  | 92 => ⟨S16384x1, .i32⟩
  | 93 => ⟨S_, .i32⟩
  | 94 => ⟨S16384x1, .i32⟩
  | 95 => ⟨S16384x1, .i32⟩
  | 96 => ⟨S16384x1, .i32⟩
  | 97 => ⟨S16384x1, .i32⟩
  | 98 => ⟨S16384x1, .i32⟩
  | 99 => ⟨S_, .i32⟩
  | 100 => ⟨S16384x1, .i32⟩
  | 101 => ⟨S16384x1, .i32⟩
  | 102 => ⟨S_, .i32⟩
  | 103 => ⟨S16384x1, .i32⟩
  | 104 => ⟨S16384x1, .i32⟩
  | 105 => ⟨S16384x1, .i32⟩
  | 106 => ⟨S16384x1, .i32⟩
  | 107 => ⟨S16384x1, .i32⟩
  | 108 => ⟨S_, .i32⟩
  | 109 => ⟨S16384x1, .i32⟩
  | 110 => ⟨S16384x1, .i32⟩
  | 111 => ⟨S_, .i32⟩
  | 112 => ⟨S16384x1, .i32⟩
  | 113 => ⟨S16384x1, .i32⟩
  | 114 => ⟨S16384x1, .i32⟩
  | 115 => ⟨S16384x1, .i32⟩
  | 116 => ⟨S16384x1, .i32⟩
  | 117 => ⟨S16384x1, .i32⟩
  | 118 => ⟨S16384x1, .i32⟩
  | 119 => ⟨S16384x1, .i32⟩
  | 120 => ⟨S_, .i32⟩
  | 121 => ⟨S16384x1, .i32⟩
  | 122 => ⟨S16384x1, .i32⟩
  | 123 => ⟨S16384x2, .i32⟩
  | 124 => ⟨S_, .f32⟩
  | 125 => ⟨S_, .f32⟩
  | 126 => ⟨S_, .f32⟩
  | 127 => ⟨S_, .f32⟩
  | _ => ⟨S16384x1000, .f32⟩

abbrev hbmTy0_2 (i : Nat) : BufTy := match i % 128 with
  | 0 => ⟨S16384x1, .i32⟩
  | 1 => ⟨S16384, .i32⟩
  | 2 => ⟨S16384x1, .i32⟩
  | 3 => ⟨S16384, .i32⟩
  | 4 => ⟨S_, .i32⟩
  | 5 => ⟨S_, .i32⟩
  | 6 => ⟨S16384, .i32⟩
  | 7 => ⟨S_, .i32⟩
  | 8 => ⟨S16384, .i32⟩
  | 9 => ⟨S16384, .i32⟩
  | 10 => ⟨S16384, .i32⟩
  | 11 => ⟨S16384, .i32⟩
  | 12 => ⟨S16384, .i32⟩
  | 13 => ⟨S16384, .i32⟩
  | 14 => ⟨S16384, .i32⟩
  | 15 => ⟨S_, .i32⟩
  | 16 => ⟨S16384, .i32⟩
  | 17 => ⟨S16384, .i32⟩
  | 18 => ⟨S_, .i32⟩
  | 19 => ⟨S16384, .i32⟩
  | 20 => ⟨S16384, .i32⟩
  | 21 => ⟨S16384, .i32⟩
  | 22 => ⟨S16384, .i32⟩
  | 23 => ⟨S16384, .i32⟩
  | 24 => ⟨S_, .i32⟩
  | 25 => ⟨S16384, .i32⟩
  | 26 => ⟨S16384, .i32⟩
  | 27 => ⟨S_, .i32⟩
  | 28 => ⟨S16384, .i32⟩
  | 29 => ⟨S16384, .i32⟩
  | 30 => ⟨S16384, .i32⟩
  | 31 => ⟨S16384, .i32⟩
  | 32 => ⟨S16384, .i32⟩
  | 33 => ⟨S_, .i32⟩
  | 34 => ⟨S16384, .i32⟩
  | 35 => ⟨S16384, .i32⟩
  | 36 => ⟨S_, .i32⟩
  | 37 => ⟨S16384, .i32⟩
  | 38 => ⟨S16384, .i32⟩
  | 39 => ⟨S16384, .i32⟩
  | 40 => ⟨S16384, .i32⟩
  | 41 => ⟨S16384, .i32⟩
  | 42 => ⟨S_, .i32⟩
  | 43 => ⟨S16384, .i32⟩
  | 44 => ⟨S16384, .i32⟩
  | 45 => ⟨S_, .i32⟩
  | 46 => ⟨S16384, .i32⟩
  | 47 => ⟨S16384, .i32⟩
  | 48 => ⟨S16384, .i32⟩
  | 49 => ⟨S16384, .i32⟩
  | 50 => ⟨S16384, .i32⟩
  | 51 => ⟨S16384, .i32⟩
  | 52 => ⟨S_, .i32⟩
  | 53 => ⟨S16384, .i32⟩
  | 54 => ⟨S16384, .i32⟩
  | 55 => ⟨S16384, .i32⟩
  | 56 => ⟨S_, .i32⟩
  | 57 => ⟨S16384, .i32⟩
  | 58 => ⟨S16384, .i32⟩
  | 59 => ⟨S_, .i32⟩
  | 60 => ⟨S16384, .i32⟩
  | 61 => ⟨S16384, .i32⟩
  | 62 => ⟨S16384, .i32⟩
  | 63 => ⟨S16384, .i32⟩
  | 64 => ⟨S16384, .i32⟩
  | 65 => ⟨S_, .i32⟩
  | 66 => ⟨S16384, .i32⟩
  | 67 => ⟨S16384, .i32⟩
  | 68 => ⟨S_, .i32⟩
  | 69 => ⟨S16384, .i32⟩
  | 70 => ⟨S16384, .i32⟩
  | 71 => ⟨S16384, .i32⟩
  | 72 => ⟨S16384, .i32⟩
  | 73 => ⟨S16384, .i32⟩
  | 74 => ⟨S_, .i32⟩
  | 75 => ⟨S16384, .i32⟩
  | 76 => ⟨S16384, .i32⟩
  | 77 => ⟨S_, .i32⟩
  | 78 => ⟨S16384, .i32⟩
  | 79 => ⟨S16384, .i32⟩
  | 80 => ⟨S16384, .i32⟩
  | 81 => ⟨S16384, .i32⟩
  | 82 => ⟨S16384, .i32⟩
  | 83 => ⟨S_, .i32⟩
  | 84 => ⟨S16384, .i32⟩
  | 85 => ⟨S16384, .i32⟩
  | 86 => ⟨S_, .i32⟩
  | 87 => ⟨S16384, .i32⟩
  | 88 => ⟨S16384, .i32⟩
  | 89 => ⟨S16384, .i32⟩
  | 90 => ⟨S16384, .i32⟩
  | 91 => ⟨S16384, .i32⟩
  | 92 => ⟨S16384, .i32⟩
  | 93 => ⟨S_, .i32⟩
  | 94 => ⟨S16384, .i32⟩
  | 95 => ⟨S16384, .i32⟩
  | 96 => ⟨S16384, .i32⟩
  | 97 => ⟨S_, .i32⟩
  | 98 => ⟨S16384, .i32⟩
  | 99 => ⟨S16384, .i32⟩
  | 100 => ⟨S_, .i32⟩
  | 101 => ⟨S16384, .i32⟩
  | 102 => ⟨S16384, .i32⟩
  | 103 => ⟨S16384, .i32⟩
  | 104 => ⟨S16384, .i32⟩
  | 105 => ⟨S16384, .i32⟩
  | 106 => ⟨S_, .i32⟩
  | 107 => ⟨S16384, .i32⟩
  | 108 => ⟨S16384, .i32⟩
  | 109 => ⟨S_, .i32⟩
  | 110 => ⟨S16384, .i32⟩
  | 111 => ⟨S16384, .i32⟩
  | 112 => ⟨S16384, .i32⟩
  | 113 => ⟨S16384, .i32⟩
  | 114 => ⟨S16384, .i32⟩
  | 115 => ⟨S_, .i32⟩
  | 116 => ⟨S16384, .i32⟩
  | 117 => ⟨S16384, .i32⟩
  | 118 => ⟨S_, .i32⟩
  | 119 => ⟨S16384, .i32⟩
  | 120 => ⟨S16384, .i32⟩
  | 121 => ⟨S16384, .i32⟩
  | 122 => ⟨S16384, .i32⟩
  | 123 => ⟨S16384, .i32⟩
  | 124 => ⟨S_, .i32⟩
  | 125 => ⟨S16384, .i32⟩
  | 126 => ⟨S16384, .i32⟩
  | 127 => ⟨S_, .i32⟩
  | _ => ⟨S16384x1000, .f32⟩

abbrev hbmTy0_3 (i : Nat) : BufTy := match i % 128 with
  | 0 => ⟨S16384, .i32⟩
  | 1 => ⟨S16384, .i32⟩
  | 2 => ⟨S16384, .i32⟩
  | 3 => ⟨S16384, .i32⟩
  | 4 => ⟨S16384, .i32⟩
  | 5 => ⟨S16384, .i32⟩
  | 6 => ⟨S_, .i32⟩
  | 7 => ⟨S16384, .i32⟩
  | 8 => ⟨S16384, .i32⟩
  | 9 => ⟨S16384, .i32⟩
  | 10 => ⟨S_, .i32⟩
  | 11 => ⟨S16384, .i32⟩
  | 12 => ⟨S16384, .i32⟩
  | 13 => ⟨S_, .i32⟩
  | 14 => ⟨S16384, .i32⟩
  | 15 => ⟨S16384, .i32⟩
  | 16 => ⟨S16384, .i32⟩
  | 17 => ⟨S16384, .i32⟩
  | 18 => ⟨S16384, .i32⟩
  | 19 => ⟨S_, .i32⟩
  | 20 => ⟨S16384, .i32⟩
  | 21 => ⟨S16384, .i32⟩
  | 22 => ⟨S_, .i32⟩
  | 23 => ⟨S16384, .i32⟩
  | 24 => ⟨S16384, .i32⟩
  | 25 => ⟨S16384, .i32⟩
  | 26 => ⟨S16384, .i32⟩
  | 27 => ⟨S16384, .i32⟩
  | 28 => ⟨S_, .i32⟩
  | 29 => ⟨S16384, .i32⟩
  | 30 => ⟨S16384, .i32⟩
  | 31 => ⟨S_, .i32⟩
  | 32 => ⟨S16384, .i32⟩
  | 33 => ⟨S16384, .i32⟩
  | 34 => ⟨S16384, .i32⟩
  | 35 => ⟨S16384, .i32⟩
  | 36 => ⟨S16384, .i32⟩
  | 37 => ⟨S_, .i32⟩
  | 38 => ⟨S16384, .i32⟩
  | 39 => ⟨S16384, .i32⟩
  | 40 => ⟨S_, .i32⟩
  | 41 => ⟨S16384, .i32⟩
  | 42 => ⟨S16384, .i32⟩
  | 43 => ⟨S16384, .i32⟩
  | 44 => ⟨S16384, .i32⟩
  | 45 => ⟨S16384, .i32⟩
  | 46 => ⟨S16384, .i32⟩
  | 47 => ⟨S_, .i32⟩
  | 48 => ⟨S16384, .i32⟩
  | 49 => ⟨S16384, .i32⟩
  | 50 => ⟨S16384, .i32⟩
  | 51 => ⟨S_, .i32⟩
  | 52 => ⟨S16384, .i32⟩
  | 53 => ⟨S16384, .i32⟩
  | 54 => ⟨S_, .i32⟩
  | 55 => ⟨S16384, .i32⟩
  | 56 => ⟨S16384, .i32⟩
  | 57 => ⟨S16384, .i32⟩
  | 58 => ⟨S16384, .i32⟩
  | 59 => ⟨S16384, .i32⟩
  | 60 => ⟨S_, .i32⟩
  | 61 => ⟨S16384, .i32⟩
  | 62 => ⟨S16384, .i32⟩
  | 63 => ⟨S_, .i32⟩
  | 64 => ⟨S16384, .i32⟩
  | 65 => ⟨S16384, .i32⟩
  | 66 => ⟨S16384, .i32⟩
  | 67 => ⟨S16384, .i32⟩
  | 68 => ⟨S16384, .i32⟩
  | 69 => ⟨S_, .i32⟩
  | 70 => ⟨S16384, .i32⟩
  | 71 => ⟨S16384, .i32⟩
  | 72 => ⟨S_, .i32⟩
  | 73 => ⟨S16384, .i32⟩
  | 74 => ⟨S16384, .i32⟩
  | 75 => ⟨S16384, .i32⟩
  | 76 => ⟨S16384, .i32⟩
  | 77 => ⟨S16384, .i32⟩
  | 78 => ⟨S_, .i32⟩
  | 79 => ⟨S16384, .i32⟩
  | 80 => ⟨S16384, .i32⟩
  | 81 => ⟨S_, .i32⟩
  | 82 => ⟨S16384, .i32⟩
  | 83 => ⟨S16384, .i32⟩
  | 84 => ⟨S16384, .i32⟩
  | 85 => ⟨S16384, .i32⟩
  | 86 => ⟨S16384, .i32⟩
  | 87 => ⟨S16384, .i32⟩
  | 88 => ⟨S_, .i32⟩
  | 89 => ⟨S16384, .i32⟩
  | 90 => ⟨S16384, .i32⟩
  | 91 => ⟨S16384, .i32⟩
  | 92 => ⟨S_, .i32⟩
  | 93 => ⟨S16384, .i32⟩
  | 94 => ⟨S16384, .i32⟩
  | 95 => ⟨S_, .i32⟩
  | 96 => ⟨S16384, .i32⟩
  | 97 => ⟨S16384, .i32⟩
  | 98 => ⟨S16384, .f32⟩
  | 99 => ⟨S_, .f32⟩
  | 100 => ⟨S16384, .f32⟩
  | 101 => ⟨S16384, .f32⟩
  | 102 => ⟨S_, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S1000, .i32⟩
  | 110 => ⟨S_, .f32⟩
  | 111 => ⟨S_, .f32⟩
  | 112 => ⟨S16384x1000, .f32⟩
  | 113 => ⟨S16384x1, .f32⟩
  | 114 => ⟨S16384, .f32⟩
  | 115 => ⟨S_, .f32⟩
  | 116 => ⟨S16384, .f32⟩
  | 117 => ⟨S16384, .f32⟩
  | 118 => ⟨S16384, .f32⟩
  | 119 => ⟨S16384x1, .f32⟩
  | 120 => ⟨S16384x1000, .f32⟩
  | 121 => ⟨S16384x1000, .i1⟩
  | 122 => ⟨S16384x1000, .i32⟩
  | 123 => ⟨S_, .i32⟩
  | 124 => ⟨S16384, .i32⟩
  | 125 => ⟨S_, .i32⟩
  | 126 => ⟨S16384, .i32⟩
  | 127 => ⟨S16384, .i1⟩
  | _ => ⟨S16384x1000, .f32⟩

abbrev hbmTy0_4 (i : Nat) : BufTy := match i % 128 with
  | 0 => ⟨S_, .i32⟩
  | 1 => ⟨S16384, .i32⟩
  | 2 => ⟨S16384, .i32⟩
  | 3 => ⟨S16384, .i32⟩
  | 4 => ⟨S16384x1, .i32⟩
  | 5 => ⟨S1, .i32⟩
  | 6 => ⟨S_, .i32⟩
  | 7 => ⟨S16384x1, .i32⟩
  | 8 => ⟨S16384x1, .i1⟩
  | 9 => ⟨S1x1, .i32⟩
  | 10 => ⟨S16384x1, .i32⟩
  | 11 => ⟨S16384x1, .i1⟩
  | 12 => ⟨S16384x1, .i1⟩
  | 13 => ⟨S_, .i1⟩
  | 14 => ⟨S16384, .i1⟩
  | 15 => ⟨S16384, .i32⟩
  | 16 => ⟨S_, .i32⟩
  | 17 => ⟨S16384, .i32⟩
  | 18 => ⟨S16384, .i32⟩
  | 19 => ⟨S16384, .i32⟩
  | 20 => ⟨S_, .i32⟩
  | 21 => ⟨S16384, .i32⟩
  | 22 => ⟨S16384, .i1⟩
  | 23 => ⟨S_, .i32⟩
  | 24 => ⟨S16384, .i32⟩
  | 25 => ⟨S16384, .i32⟩
  | 26 => ⟨S16384, .i32⟩
  | 27 => ⟨S_, .i32⟩
  | 28 => ⟨S16384, .i32⟩
  | 29 => ⟨S16384, .i1⟩
  | 30 => ⟨S_, .i32⟩
  | 31 => ⟨S16384, .i32⟩
  | 32 => ⟨S16384, .i32⟩
  | 33 => ⟨S16384, .i32⟩
  | 34 => ⟨S16384x1, .i32⟩
  | 35 => ⟨S16384x1, .i32⟩
  | 36 => ⟨S16384x2, .i32⟩
  | 37 => ⟨S_, .i32⟩
  | 38 => ⟨S16384, .i32⟩
  | 39 => ⟨S16384x1000, .i32⟩
  | _ => ⟨S16384x1000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x1000, .f32⟩

abbrev bufTy : (tb : Table) → Fin (tcTables nBuf tb) → BufTy
  | .hbm, ⟨i, _⟩ => hbmTy i
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_c_0 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_call0_v0 : Ref sig .tc := ⟨.hbm, 29, rfl⟩
abbrev main_call0_call0_c : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_c_0 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_c_1 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_call0_v12 : Ref sig .tc := ⟨.hbm, 44, rfl⟩
abbrev main_call0_call0_v13 : Ref sig .tc := ⟨.hbm, 45, rfl⟩
abbrev main_call0_call0_c_2 : Ref sig .tc := ⟨.hbm, 46, rfl⟩
abbrev main_call0_call0_v14 : Ref sig .tc := ⟨.hbm, 47, rfl⟩
abbrev main_call0_call0_v15 : Ref sig .tc := ⟨.hbm, 48, rfl⟩
abbrev main_call0_call0_c_3 : Ref sig .tc := ⟨.hbm, 49, rfl⟩
abbrev main_call0_call0_v16 : Ref sig .tc := ⟨.hbm, 50, rfl⟩
abbrev main_call0_call0_v17 : Ref sig .tc := ⟨.hbm, 51, rfl⟩
abbrev main_call0_call0_v18 : Ref sig .tc := ⟨.hbm, 52, rfl⟩
abbrev main_call0_call0_v19 : Ref sig .tc := ⟨.hbm, 53, rfl⟩
abbrev main_call0_call0_v20 : Ref sig .tc := ⟨.hbm, 54, rfl⟩
abbrev main_call0_call0_c_4 : Ref sig .tc := ⟨.hbm, 55, rfl⟩
abbrev main_call0_call0_v21 : Ref sig .tc := ⟨.hbm, 56, rfl⟩
abbrev main_call0_call0_v22 : Ref sig .tc := ⟨.hbm, 57, rfl⟩
abbrev main_call0_call0_c_5 : Ref sig .tc := ⟨.hbm, 58, rfl⟩
abbrev main_call0_call0_v23 : Ref sig .tc := ⟨.hbm, 59, rfl⟩
abbrev main_call0_call0_v24 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_v27 : Ref sig .tc := ⟨.hbm, 63, rfl⟩
abbrev main_call0_call0_c_6 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_c_7 : Ref sig .tc := ⟨.hbm, 67, rfl⟩
abbrev main_call0_call0_v30 : Ref sig .tc := ⟨.hbm, 68, rfl⟩
abbrev main_call0_call0_v31 : Ref sig .tc := ⟨.hbm, 69, rfl⟩
abbrev main_call0_call0_v32 : Ref sig .tc := ⟨.hbm, 70, rfl⟩
abbrev main_call0_call0_v33 : Ref sig .tc := ⟨.hbm, 71, rfl⟩
abbrev main_call0_call0_v34 : Ref sig .tc := ⟨.hbm, 72, rfl⟩
abbrev main_call0_call0_v35 : Ref sig .tc := ⟨.hbm, 73, rfl⟩
abbrev main_call0_call0_v36 : Ref sig .tc := ⟨.hbm, 74, rfl⟩
abbrev main_call0_call0_v37 : Ref sig .tc := ⟨.hbm, 75, rfl⟩
abbrev main_call0_call0_c_8 : Ref sig .tc := ⟨.hbm, 76, rfl⟩
abbrev main_call0_call0_v38 : Ref sig .tc := ⟨.hbm, 77, rfl⟩
abbrev main_call0_call0_v39 : Ref sig .tc := ⟨.hbm, 78, rfl⟩
abbrev main_call0_call0_v40 : Ref sig .tc := ⟨.hbm, 79, rfl⟩
abbrev main_call0_call0_c_9 : Ref sig .tc := ⟨.hbm, 80, rfl⟩
abbrev main_call0_call0_v41 : Ref sig .tc := ⟨.hbm, 81, rfl⟩
abbrev main_call0_call0_v42 : Ref sig .tc := ⟨.hbm, 82, rfl⟩
abbrev main_call0_call0_c_10 : Ref sig .tc := ⟨.hbm, 83, rfl⟩
abbrev main_call0_call0_v43 : Ref sig .tc := ⟨.hbm, 84, rfl⟩
abbrev main_call0_call0_v44 : Ref sig .tc := ⟨.hbm, 85, rfl⟩
abbrev main_call0_call0_v45 : Ref sig .tc := ⟨.hbm, 86, rfl⟩
abbrev main_call0_call0_v46 : Ref sig .tc := ⟨.hbm, 87, rfl⟩
abbrev main_call0_call0_v47 : Ref sig .tc := ⟨.hbm, 88, rfl⟩
abbrev main_call0_call0_c_11 : Ref sig .tc := ⟨.hbm, 89, rfl⟩
abbrev main_call0_call0_v48 : Ref sig .tc := ⟨.hbm, 90, rfl⟩
abbrev main_call0_call0_v49 : Ref sig .tc := ⟨.hbm, 91, rfl⟩
abbrev main_call0_call0_c_12 : Ref sig .tc := ⟨.hbm, 92, rfl⟩
abbrev main_call0_call0_v50 : Ref sig .tc := ⟨.hbm, 93, rfl⟩
abbrev main_call0_call0_v51 : Ref sig .tc := ⟨.hbm, 94, rfl⟩
abbrev main_call0_call0_v52 : Ref sig .tc := ⟨.hbm, 95, rfl⟩
abbrev main_call0_call0_v53 : Ref sig .tc := ⟨.hbm, 96, rfl⟩
abbrev main_call0_call0_v54 : Ref sig .tc := ⟨.hbm, 97, rfl⟩
abbrev main_call0_call0_c_13 : Ref sig .tc := ⟨.hbm, 98, rfl⟩
abbrev main_call0_call0_v55 : Ref sig .tc := ⟨.hbm, 99, rfl⟩
abbrev main_call0_call0_v56 : Ref sig .tc := ⟨.hbm, 100, rfl⟩
abbrev main_call0_call0_c_14 : Ref sig .tc := ⟨.hbm, 101, rfl⟩
abbrev main_call0_call0_v57 : Ref sig .tc := ⟨.hbm, 102, rfl⟩
abbrev main_call0_call0_v58 : Ref sig .tc := ⟨.hbm, 103, rfl⟩
abbrev main_call0_call0_v59 : Ref sig .tc := ⟨.hbm, 104, rfl⟩
abbrev main_call0_call0_v60 : Ref sig .tc := ⟨.hbm, 105, rfl⟩
abbrev main_call0_call0_v61 : Ref sig .tc := ⟨.hbm, 106, rfl⟩
abbrev main_call0_call0_c_15 : Ref sig .tc := ⟨.hbm, 107, rfl⟩
abbrev main_call0_call0_v62 : Ref sig .tc := ⟨.hbm, 108, rfl⟩
abbrev main_call0_call0_v63 : Ref sig .tc := ⟨.hbm, 109, rfl⟩
abbrev main_call0_call0_c_16 : Ref sig .tc := ⟨.hbm, 110, rfl⟩
abbrev main_call0_call0_v64 : Ref sig .tc := ⟨.hbm, 111, rfl⟩
abbrev main_call0_call0_v65 : Ref sig .tc := ⟨.hbm, 112, rfl⟩
abbrev main_call0_call0_v66 : Ref sig .tc := ⟨.hbm, 113, rfl⟩
abbrev main_call0_call0_v67 : Ref sig .tc := ⟨.hbm, 114, rfl⟩
abbrev main_call0_call0_v68 : Ref sig .tc := ⟨.hbm, 115, rfl⟩
abbrev main_call0_call0_v69 : Ref sig .tc := ⟨.hbm, 116, rfl⟩
abbrev main_call0_call0_v70 : Ref sig .tc := ⟨.hbm, 117, rfl⟩
abbrev main_call0_call0_v71 : Ref sig .tc := ⟨.hbm, 118, rfl⟩
abbrev main_call0_call0_c_17 : Ref sig .tc := ⟨.hbm, 119, rfl⟩
abbrev main_call0_call0_v72 : Ref sig .tc := ⟨.hbm, 120, rfl⟩
abbrev main_call0_call0_v73 : Ref sig .tc := ⟨.hbm, 121, rfl⟩
abbrev main_call0_call0_v74 : Ref sig .tc := ⟨.hbm, 122, rfl⟩
abbrev main_call0_call0_c_18 : Ref sig .tc := ⟨.hbm, 123, rfl⟩
abbrev main_call0_call0_v75 : Ref sig .tc := ⟨.hbm, 124, rfl⟩
abbrev main_call0_call0_v76 : Ref sig .tc := ⟨.hbm, 125, rfl⟩
abbrev main_call0_call0_c_19 : Ref sig .tc := ⟨.hbm, 126, rfl⟩
abbrev main_call0_call0_v77 : Ref sig .tc := ⟨.hbm, 127, rfl⟩
abbrev main_call0_call0_v78 : Ref sig .tc := ⟨.hbm, 128, rfl⟩
abbrev main_call0_call0_v79 : Ref sig .tc := ⟨.hbm, 129, rfl⟩
abbrev main_call0_call0_v80 : Ref sig .tc := ⟨.hbm, 130, rfl⟩
abbrev main_call0_call0_v81 : Ref sig .tc := ⟨.hbm, 131, rfl⟩
abbrev main_call0_call0_c_20 : Ref sig .tc := ⟨.hbm, 132, rfl⟩
abbrev main_call0_call0_v82 : Ref sig .tc := ⟨.hbm, 133, rfl⟩
abbrev main_call0_call0_v83 : Ref sig .tc := ⟨.hbm, 134, rfl⟩
abbrev main_call0_call0_c_21 : Ref sig .tc := ⟨.hbm, 135, rfl⟩
abbrev main_call0_call0_v84 : Ref sig .tc := ⟨.hbm, 136, rfl⟩
abbrev main_call0_call0_v85 : Ref sig .tc := ⟨.hbm, 137, rfl⟩
abbrev main_call0_call0_v86 : Ref sig .tc := ⟨.hbm, 138, rfl⟩
abbrev main_call0_call0_v87 : Ref sig .tc := ⟨.hbm, 139, rfl⟩
abbrev main_call0_call0_v88 : Ref sig .tc := ⟨.hbm, 140, rfl⟩
abbrev main_call0_call0_c_22 : Ref sig .tc := ⟨.hbm, 141, rfl⟩
abbrev main_call0_call0_v89 : Ref sig .tc := ⟨.hbm, 142, rfl⟩
abbrev main_call0_call0_v90 : Ref sig .tc := ⟨.hbm, 143, rfl⟩
abbrev main_call0_call0_c_23 : Ref sig .tc := ⟨.hbm, 144, rfl⟩
abbrev main_call0_call0_v91 : Ref sig .tc := ⟨.hbm, 145, rfl⟩
abbrev main_call0_call0_v92 : Ref sig .tc := ⟨.hbm, 146, rfl⟩
abbrev main_call0_call0_v93 : Ref sig .tc := ⟨.hbm, 147, rfl⟩
abbrev main_call0_call0_v94 : Ref sig .tc := ⟨.hbm, 148, rfl⟩
abbrev main_call0_call0_v95 : Ref sig .tc := ⟨.hbm, 149, rfl⟩
abbrev main_call0_call0_c_24 : Ref sig .tc := ⟨.hbm, 150, rfl⟩
abbrev main_call0_call0_v96 : Ref sig .tc := ⟨.hbm, 151, rfl⟩
abbrev main_call0_call0_v97 : Ref sig .tc := ⟨.hbm, 152, rfl⟩
abbrev main_call0_call0_c_25 : Ref sig .tc := ⟨.hbm, 153, rfl⟩
abbrev main_call0_call0_v98 : Ref sig .tc := ⟨.hbm, 154, rfl⟩
abbrev main_call0_call0_v99 : Ref sig .tc := ⟨.hbm, 155, rfl⟩
abbrev main_call0_call0_v100 : Ref sig .tc := ⟨.hbm, 156, rfl⟩
abbrev main_call0_call0_v101 : Ref sig .tc := ⟨.hbm, 157, rfl⟩
abbrev main_call0_call0_v102 : Ref sig .tc := ⟨.hbm, 158, rfl⟩
abbrev main_call0_call0_v103 : Ref sig .tc := ⟨.hbm, 159, rfl⟩
abbrev main_call0_call0_v104 : Ref sig .tc := ⟨.hbm, 160, rfl⟩
abbrev main_call0_call0_v105 : Ref sig .tc := ⟨.hbm, 161, rfl⟩
abbrev main_call0_call0_c_26 : Ref sig .tc := ⟨.hbm, 162, rfl⟩
abbrev main_call0_call0_v106 : Ref sig .tc := ⟨.hbm, 163, rfl⟩
abbrev main_call0_call0_v107 : Ref sig .tc := ⟨.hbm, 164, rfl⟩
abbrev main_call0_call0_v108 : Ref sig .tc := ⟨.hbm, 165, rfl⟩
abbrev main_call0_call0_c_27 : Ref sig .tc := ⟨.hbm, 166, rfl⟩
abbrev main_call0_call0_v109 : Ref sig .tc := ⟨.hbm, 167, rfl⟩
abbrev main_call0_call0_v110 : Ref sig .tc := ⟨.hbm, 168, rfl⟩
abbrev main_call0_call0_c_28 : Ref sig .tc := ⟨.hbm, 169, rfl⟩
abbrev main_call0_call0_v111 : Ref sig .tc := ⟨.hbm, 170, rfl⟩
abbrev main_call0_call0_v112 : Ref sig .tc := ⟨.hbm, 171, rfl⟩
abbrev main_call0_call0_v113 : Ref sig .tc := ⟨.hbm, 172, rfl⟩
abbrev main_call0_call0_v114 : Ref sig .tc := ⟨.hbm, 173, rfl⟩
abbrev main_call0_call0_v115 : Ref sig .tc := ⟨.hbm, 174, rfl⟩
abbrev main_call0_call0_c_29 : Ref sig .tc := ⟨.hbm, 175, rfl⟩
abbrev main_call0_call0_v116 : Ref sig .tc := ⟨.hbm, 176, rfl⟩
abbrev main_call0_call0_v117 : Ref sig .tc := ⟨.hbm, 177, rfl⟩
abbrev main_call0_call0_c_30 : Ref sig .tc := ⟨.hbm, 178, rfl⟩
abbrev main_call0_call0_v118 : Ref sig .tc := ⟨.hbm, 179, rfl⟩
abbrev main_call0_call0_v119 : Ref sig .tc := ⟨.hbm, 180, rfl⟩
abbrev main_call0_call0_v120 : Ref sig .tc := ⟨.hbm, 181, rfl⟩
abbrev main_call0_call0_v121 : Ref sig .tc := ⟨.hbm, 182, rfl⟩
abbrev main_call0_call0_v122 : Ref sig .tc := ⟨.hbm, 183, rfl⟩
abbrev main_call0_call0_c_31 : Ref sig .tc := ⟨.hbm, 184, rfl⟩
abbrev main_call0_call0_v123 : Ref sig .tc := ⟨.hbm, 185, rfl⟩
abbrev main_call0_call0_v124 : Ref sig .tc := ⟨.hbm, 186, rfl⟩
abbrev main_call0_call0_c_32 : Ref sig .tc := ⟨.hbm, 187, rfl⟩
abbrev main_call0_call0_v125 : Ref sig .tc := ⟨.hbm, 188, rfl⟩
abbrev main_call0_call0_v126 : Ref sig .tc := ⟨.hbm, 189, rfl⟩
abbrev main_call0_call0_v127 : Ref sig .tc := ⟨.hbm, 190, rfl⟩
abbrev main_call0_call0_v128 : Ref sig .tc := ⟨.hbm, 191, rfl⟩
abbrev main_call0_call0_v129 : Ref sig .tc := ⟨.hbm, 192, rfl⟩
abbrev main_call0_call0_c_33 : Ref sig .tc := ⟨.hbm, 193, rfl⟩
abbrev main_call0_call0_v130 : Ref sig .tc := ⟨.hbm, 194, rfl⟩
abbrev main_call0_call0_v131 : Ref sig .tc := ⟨.hbm, 195, rfl⟩
abbrev main_call0_call0_c_34 : Ref sig .tc := ⟨.hbm, 196, rfl⟩
abbrev main_call0_call0_v132 : Ref sig .tc := ⟨.hbm, 197, rfl⟩
abbrev main_call0_call0_v133 : Ref sig .tc := ⟨.hbm, 198, rfl⟩
abbrev main_call0_call0_v134 : Ref sig .tc := ⟨.hbm, 199, rfl⟩
abbrev main_call0_call0_v135 : Ref sig .tc := ⟨.hbm, 200, rfl⟩
abbrev main_call0_call0_v136 : Ref sig .tc := ⟨.hbm, 201, rfl⟩
abbrev main_call0_call0_v137 : Ref sig .tc := ⟨.hbm, 202, rfl⟩
abbrev main_call0_call0_v138 : Ref sig .tc := ⟨.hbm, 203, rfl⟩
abbrev main_call0_call0_v139 : Ref sig .tc := ⟨.hbm, 204, rfl⟩
abbrev main_call0_call0_c_35 : Ref sig .tc := ⟨.hbm, 205, rfl⟩
abbrev main_call0_call0_v140 : Ref sig .tc := ⟨.hbm, 206, rfl⟩
abbrev main_call0_call0_v141 : Ref sig .tc := ⟨.hbm, 207, rfl⟩
abbrev main_call0_call0_v142 : Ref sig .tc := ⟨.hbm, 208, rfl⟩
abbrev main_call0_call0_c_36 : Ref sig .tc := ⟨.hbm, 209, rfl⟩
abbrev main_call0_call0_v143 : Ref sig .tc := ⟨.hbm, 210, rfl⟩
abbrev main_call0_call0_v144 : Ref sig .tc := ⟨.hbm, 211, rfl⟩
abbrev main_call0_call0_c_37 : Ref sig .tc := ⟨.hbm, 212, rfl⟩
abbrev main_call0_call0_v145 : Ref sig .tc := ⟨.hbm, 213, rfl⟩
abbrev main_call0_call0_v146 : Ref sig .tc := ⟨.hbm, 214, rfl⟩
abbrev main_call0_call0_v147 : Ref sig .tc := ⟨.hbm, 215, rfl⟩
abbrev main_call0_call0_v148 : Ref sig .tc := ⟨.hbm, 216, rfl⟩
abbrev main_call0_call0_v149 : Ref sig .tc := ⟨.hbm, 217, rfl⟩
abbrev main_call0_call0_c_38 : Ref sig .tc := ⟨.hbm, 218, rfl⟩
abbrev main_call0_call0_v150 : Ref sig .tc := ⟨.hbm, 219, rfl⟩
abbrev main_call0_call0_v151 : Ref sig .tc := ⟨.hbm, 220, rfl⟩
abbrev main_call0_call0_c_39 : Ref sig .tc := ⟨.hbm, 221, rfl⟩
abbrev main_call0_call0_v152 : Ref sig .tc := ⟨.hbm, 222, rfl⟩
abbrev main_call0_call0_v153 : Ref sig .tc := ⟨.hbm, 223, rfl⟩
abbrev main_call0_call0_v154 : Ref sig .tc := ⟨.hbm, 224, rfl⟩
abbrev main_call0_call0_v155 : Ref sig .tc := ⟨.hbm, 225, rfl⟩
abbrev main_call0_call0_v156 : Ref sig .tc := ⟨.hbm, 226, rfl⟩
abbrev main_call0_call0_c_40 : Ref sig .tc := ⟨.hbm, 227, rfl⟩
abbrev main_call0_call0_v157 : Ref sig .tc := ⟨.hbm, 228, rfl⟩
abbrev main_call0_call0_v158 : Ref sig .tc := ⟨.hbm, 229, rfl⟩
abbrev main_call0_call0_c_41 : Ref sig .tc := ⟨.hbm, 230, rfl⟩
abbrev main_call0_call0_v159 : Ref sig .tc := ⟨.hbm, 231, rfl⟩
abbrev main_call0_call0_v160 : Ref sig .tc := ⟨.hbm, 232, rfl⟩
abbrev main_call0_call0_v161 : Ref sig .tc := ⟨.hbm, 233, rfl⟩
abbrev main_call0_call0_v162 : Ref sig .tc := ⟨.hbm, 234, rfl⟩
abbrev main_call0_call0_v163 : Ref sig .tc := ⟨.hbm, 235, rfl⟩
abbrev main_call0_call0_c_42 : Ref sig .tc := ⟨.hbm, 236, rfl⟩
abbrev main_call0_call0_v164 : Ref sig .tc := ⟨.hbm, 237, rfl⟩
abbrev main_call0_call0_v165 : Ref sig .tc := ⟨.hbm, 238, rfl⟩
abbrev main_call0_call0_c_43 : Ref sig .tc := ⟨.hbm, 239, rfl⟩
abbrev main_call0_call0_v166 : Ref sig .tc := ⟨.hbm, 240, rfl⟩
abbrev main_call0_call0_v167 : Ref sig .tc := ⟨.hbm, 241, rfl⟩
abbrev main_call0_call0_v168 : Ref sig .tc := ⟨.hbm, 242, rfl⟩
abbrev main_call0_call0_v169 : Ref sig .tc := ⟨.hbm, 243, rfl⟩
abbrev main_call0_call0_v170 : Ref sig .tc := ⟨.hbm, 244, rfl⟩
abbrev main_call0_v13_0 : Ref sig .tc := ⟨.hbm, 245, rfl⟩
abbrev main_call0_call0_v172 : Ref sig .tc := ⟨.hbm, 246, rfl⟩
abbrev main_call0_call0_v173 : Ref sig .tc := ⟨.hbm, 247, rfl⟩
abbrev main_call0_call0_c_44 : Ref sig .tc := ⟨.hbm, 248, rfl⟩
abbrev main_call0_call0_v174 : Ref sig .tc := ⟨.hbm, 249, rfl⟩
abbrev main_call0_v13_1 : Ref sig .tc := ⟨.hbm, 250, rfl⟩
abbrev main_v8 : Ref sig .tc := ⟨.hbm, 251, rfl⟩
abbrev main_cst : Ref sig .tc := ⟨.hbm, 252, rfl⟩
abbrev main_cst_2 : Ref sig .tc := ⟨.hbm, 253, rfl⟩
abbrev main_call1_v0 : Ref sig .tc := ⟨.hbm, 254, rfl⟩
abbrev main_call1_v1 : Ref sig .tc := ⟨.hbm, 255, rfl⟩
abbrev main_call1_v2 : Ref sig .tc := ⟨.hbm, 256, rfl⟩
abbrev main_call1_v3 : Ref sig .tc := ⟨.hbm, 257, rfl⟩
abbrev main_call1_v4 : Ref sig .tc := ⟨.hbm, 258, rfl⟩
abbrev main_call1_v5 : Ref sig .tc := ⟨.hbm, 259, rfl⟩
abbrev main_call1_c : Ref sig .tc := ⟨.hbm, 260, rfl⟩
abbrev main_call1_c_0 : Ref sig .tc := ⟨.hbm, 261, rfl⟩
abbrev main_call1_call0_v0 : Ref sig .tc := ⟨.hbm, 262, rfl⟩
abbrev main_call1_call0_c : Ref sig .tc := ⟨.hbm, 263, rfl⟩
abbrev main_call1_call0_v1 : Ref sig .tc := ⟨.hbm, 264, rfl⟩
abbrev main_call1_call0_v2 : Ref sig .tc := ⟨.hbm, 265, rfl⟩
abbrev main_call1_call0_v3 : Ref sig .tc := ⟨.hbm, 266, rfl⟩
abbrev main_call1_call0_v4 : Ref sig .tc := ⟨.hbm, 267, rfl⟩
abbrev main_call1_call0_v5 : Ref sig .tc := ⟨.hbm, 268, rfl⟩
abbrev main_call1_call0_v6 : Ref sig .tc := ⟨.hbm, 269, rfl⟩
abbrev main_call1_call0_v7 : Ref sig .tc := ⟨.hbm, 270, rfl⟩
abbrev main_call1_call0_c_0 : Ref sig .tc := ⟨.hbm, 271, rfl⟩
abbrev main_call1_call0_v8 : Ref sig .tc := ⟨.hbm, 272, rfl⟩
abbrev main_call1_call0_v9 : Ref sig .tc := ⟨.hbm, 273, rfl⟩
abbrev main_call1_call0_c_1 : Ref sig .tc := ⟨.hbm, 274, rfl⟩
abbrev main_call1_call0_v10 : Ref sig .tc := ⟨.hbm, 275, rfl⟩
abbrev main_call1_call0_v11 : Ref sig .tc := ⟨.hbm, 276, rfl⟩
abbrev main_call1_call0_v12 : Ref sig .tc := ⟨.hbm, 277, rfl⟩
abbrev main_call1_call0_v13 : Ref sig .tc := ⟨.hbm, 278, rfl⟩
abbrev main_call1_call0_v14 : Ref sig .tc := ⟨.hbm, 279, rfl⟩
abbrev main_call1_call0_c_2 : Ref sig .tc := ⟨.hbm, 280, rfl⟩
abbrev main_call1_call0_v15 : Ref sig .tc := ⟨.hbm, 281, rfl⟩
abbrev main_call1_call0_v16 : Ref sig .tc := ⟨.hbm, 282, rfl⟩
abbrev main_call1_call0_c_3 : Ref sig .tc := ⟨.hbm, 283, rfl⟩
abbrev main_call1_call0_v17 : Ref sig .tc := ⟨.hbm, 284, rfl⟩
abbrev main_call1_call0_v18 : Ref sig .tc := ⟨.hbm, 285, rfl⟩
abbrev main_call1_call0_v19 : Ref sig .tc := ⟨.hbm, 286, rfl⟩
abbrev main_call1_call0_v20 : Ref sig .tc := ⟨.hbm, 287, rfl⟩
abbrev main_call1_call0_v21 : Ref sig .tc := ⟨.hbm, 288, rfl⟩
abbrev main_call1_call0_c_4 : Ref sig .tc := ⟨.hbm, 289, rfl⟩
abbrev main_call1_call0_v22 : Ref sig .tc := ⟨.hbm, 290, rfl⟩
abbrev main_call1_call0_v23 : Ref sig .tc := ⟨.hbm, 291, rfl⟩
abbrev main_call1_call0_c_5 : Ref sig .tc := ⟨.hbm, 292, rfl⟩
abbrev main_call1_call0_v24 : Ref sig .tc := ⟨.hbm, 293, rfl⟩
abbrev main_call1_call0_v25 : Ref sig .tc := ⟨.hbm, 294, rfl⟩
abbrev main_call1_call0_v26 : Ref sig .tc := ⟨.hbm, 295, rfl⟩
abbrev main_call1_call0_v27 : Ref sig .tc := ⟨.hbm, 296, rfl⟩
abbrev main_call1_call0_v28 : Ref sig .tc := ⟨.hbm, 297, rfl⟩
abbrev main_call1_call0_c_6 : Ref sig .tc := ⟨.hbm, 298, rfl⟩
abbrev main_call1_call0_v29 : Ref sig .tc := ⟨.hbm, 299, rfl⟩
abbrev main_call1_call0_v30 : Ref sig .tc := ⟨.hbm, 300, rfl⟩
abbrev main_call1_call0_c_7 : Ref sig .tc := ⟨.hbm, 301, rfl⟩
abbrev main_call1_call0_v31 : Ref sig .tc := ⟨.hbm, 302, rfl⟩
abbrev main_call1_call0_v32 : Ref sig .tc := ⟨.hbm, 303, rfl⟩
abbrev main_call1_call0_v33 : Ref sig .tc := ⟨.hbm, 304, rfl⟩
abbrev main_call1_call0_v34 : Ref sig .tc := ⟨.hbm, 305, rfl⟩
abbrev main_call1_call0_v35 : Ref sig .tc := ⟨.hbm, 306, rfl⟩
abbrev main_call1_call0_v36 : Ref sig .tc := ⟨.hbm, 307, rfl⟩
abbrev main_call1_call0_c_8 : Ref sig .tc := ⟨.hbm, 308, rfl⟩
abbrev main_call1_call0_v37 : Ref sig .tc := ⟨.hbm, 309, rfl⟩
abbrev main_call1_call0_v38 : Ref sig .tc := ⟨.hbm, 310, rfl⟩
abbrev main_call1_call0_v39 : Ref sig .tc := ⟨.hbm, 311, rfl⟩
abbrev main_call1_call0_c_9 : Ref sig .tc := ⟨.hbm, 312, rfl⟩
abbrev main_call1_call0_v40 : Ref sig .tc := ⟨.hbm, 313, rfl⟩
abbrev main_call1_call0_v41 : Ref sig .tc := ⟨.hbm, 314, rfl⟩
abbrev main_call1_call0_c_10 : Ref sig .tc := ⟨.hbm, 315, rfl⟩
abbrev main_call1_call0_v42 : Ref sig .tc := ⟨.hbm, 316, rfl⟩
abbrev main_call1_call0_v43 : Ref sig .tc := ⟨.hbm, 317, rfl⟩
abbrev main_call1_call0_v44 : Ref sig .tc := ⟨.hbm, 318, rfl⟩
abbrev main_call1_call0_v45 : Ref sig .tc := ⟨.hbm, 319, rfl⟩
abbrev main_call1_call0_v46 : Ref sig .tc := ⟨.hbm, 320, rfl⟩
abbrev main_call1_call0_c_11 : Ref sig .tc := ⟨.hbm, 321, rfl⟩
abbrev main_call1_call0_v47 : Ref sig .tc := ⟨.hbm, 322, rfl⟩
abbrev main_call1_call0_v48 : Ref sig .tc := ⟨.hbm, 323, rfl⟩
abbrev main_call1_call0_c_12 : Ref sig .tc := ⟨.hbm, 324, rfl⟩
abbrev main_call1_call0_v49 : Ref sig .tc := ⟨.hbm, 325, rfl⟩
abbrev main_call1_call0_v50 : Ref sig .tc := ⟨.hbm, 326, rfl⟩
abbrev main_call1_call0_v51 : Ref sig .tc := ⟨.hbm, 327, rfl⟩
abbrev main_call1_call0_v52 : Ref sig .tc := ⟨.hbm, 328, rfl⟩
abbrev main_call1_call0_v53 : Ref sig .tc := ⟨.hbm, 329, rfl⟩
abbrev main_call1_call0_c_13 : Ref sig .tc := ⟨.hbm, 330, rfl⟩
abbrev main_call1_call0_v54 : Ref sig .tc := ⟨.hbm, 331, rfl⟩
abbrev main_call1_call0_v55 : Ref sig .tc := ⟨.hbm, 332, rfl⟩
abbrev main_call1_call0_c_14 : Ref sig .tc := ⟨.hbm, 333, rfl⟩
abbrev main_call1_call0_v56 : Ref sig .tc := ⟨.hbm, 334, rfl⟩
abbrev main_call1_call0_v57 : Ref sig .tc := ⟨.hbm, 335, rfl⟩
abbrev main_call1_call0_v58 : Ref sig .tc := ⟨.hbm, 336, rfl⟩
abbrev main_call1_call0_v59 : Ref sig .tc := ⟨.hbm, 337, rfl⟩
abbrev main_call1_call0_v60 : Ref sig .tc := ⟨.hbm, 338, rfl⟩
abbrev main_call1_call0_c_15 : Ref sig .tc := ⟨.hbm, 339, rfl⟩
abbrev main_call1_call0_v61 : Ref sig .tc := ⟨.hbm, 340, rfl⟩
abbrev main_call1_call0_v62 : Ref sig .tc := ⟨.hbm, 341, rfl⟩
abbrev main_call1_call0_c_16 : Ref sig .tc := ⟨.hbm, 342, rfl⟩
abbrev main_call1_call0_v63 : Ref sig .tc := ⟨.hbm, 343, rfl⟩
abbrev main_call1_call0_v64 : Ref sig .tc := ⟨.hbm, 344, rfl⟩
abbrev main_call1_call0_v65 : Ref sig .tc := ⟨.hbm, 345, rfl⟩
abbrev main_call1_call0_v66 : Ref sig .tc := ⟨.hbm, 346, rfl⟩
abbrev main_call1_call0_v67 : Ref sig .tc := ⟨.hbm, 347, rfl⟩
abbrev main_call1_call0_v68 : Ref sig .tc := ⟨.hbm, 348, rfl⟩
abbrev main_call1_call0_c_17 : Ref sig .tc := ⟨.hbm, 349, rfl⟩
abbrev main_call1_call0_v69 : Ref sig .tc := ⟨.hbm, 350, rfl⟩
abbrev main_call1_call0_v70 : Ref sig .tc := ⟨.hbm, 351, rfl⟩
abbrev main_call1_call0_v71 : Ref sig .tc := ⟨.hbm, 352, rfl⟩
abbrev main_call1_call0_c_18 : Ref sig .tc := ⟨.hbm, 353, rfl⟩
abbrev main_call1_call0_v72 : Ref sig .tc := ⟨.hbm, 354, rfl⟩
abbrev main_call1_call0_v73 : Ref sig .tc := ⟨.hbm, 355, rfl⟩
abbrev main_call1_call0_c_19 : Ref sig .tc := ⟨.hbm, 356, rfl⟩
abbrev main_call1_call0_v74 : Ref sig .tc := ⟨.hbm, 357, rfl⟩
abbrev main_call1_call0_v75 : Ref sig .tc := ⟨.hbm, 358, rfl⟩
abbrev main_call1_call0_v76 : Ref sig .tc := ⟨.hbm, 359, rfl⟩
abbrev main_call1_call0_v77 : Ref sig .tc := ⟨.hbm, 360, rfl⟩
abbrev main_call1_call0_v78 : Ref sig .tc := ⟨.hbm, 361, rfl⟩
abbrev main_call1_call0_c_20 : Ref sig .tc := ⟨.hbm, 362, rfl⟩
abbrev main_call1_call0_v79 : Ref sig .tc := ⟨.hbm, 363, rfl⟩
abbrev main_call1_call0_v80 : Ref sig .tc := ⟨.hbm, 364, rfl⟩
abbrev main_call1_call0_c_21 : Ref sig .tc := ⟨.hbm, 365, rfl⟩
abbrev main_call1_call0_v81 : Ref sig .tc := ⟨.hbm, 366, rfl⟩
abbrev main_call1_call0_v82 : Ref sig .tc := ⟨.hbm, 367, rfl⟩
abbrev main_call1_call0_v83 : Ref sig .tc := ⟨.hbm, 368, rfl⟩
abbrev main_call1_call0_v84 : Ref sig .tc := ⟨.hbm, 369, rfl⟩
abbrev main_call1_call0_v85 : Ref sig .tc := ⟨.hbm, 370, rfl⟩
abbrev main_call1_call0_c_22 : Ref sig .tc := ⟨.hbm, 371, rfl⟩
abbrev main_call1_call0_v86 : Ref sig .tc := ⟨.hbm, 372, rfl⟩
abbrev main_call1_call0_v87 : Ref sig .tc := ⟨.hbm, 373, rfl⟩
abbrev main_call1_call0_c_23 : Ref sig .tc := ⟨.hbm, 374, rfl⟩
abbrev main_call1_call0_v88 : Ref sig .tc := ⟨.hbm, 375, rfl⟩
abbrev main_call1_call0_v89 : Ref sig .tc := ⟨.hbm, 376, rfl⟩
abbrev main_call1_call0_v90 : Ref sig .tc := ⟨.hbm, 377, rfl⟩
abbrev main_call1_call0_v91 : Ref sig .tc := ⟨.hbm, 378, rfl⟩
abbrev main_call1_call0_v92 : Ref sig .tc := ⟨.hbm, 379, rfl⟩
abbrev main_call1_call0_c_24 : Ref sig .tc := ⟨.hbm, 380, rfl⟩
abbrev main_call1_call0_v93 : Ref sig .tc := ⟨.hbm, 381, rfl⟩
abbrev main_call1_call0_v94 : Ref sig .tc := ⟨.hbm, 382, rfl⟩
abbrev main_call1_call0_c_25 : Ref sig .tc := ⟨.hbm, 383, rfl⟩
abbrev main_call1_call0_v95 : Ref sig .tc := ⟨.hbm, 384, rfl⟩
abbrev main_call1_call0_v96 : Ref sig .tc := ⟨.hbm, 385, rfl⟩
abbrev main_call1_call0_v97 : Ref sig .tc := ⟨.hbm, 386, rfl⟩
abbrev main_call1_call0_v98 : Ref sig .tc := ⟨.hbm, 387, rfl⟩
abbrev main_call1_call0_v99 : Ref sig .tc := ⟨.hbm, 388, rfl⟩
abbrev main_call1_call0_v100 : Ref sig .tc := ⟨.hbm, 389, rfl⟩
abbrev main_call1_call0_c_26 : Ref sig .tc := ⟨.hbm, 390, rfl⟩
abbrev main_call1_call0_v101 : Ref sig .tc := ⟨.hbm, 391, rfl⟩
abbrev main_call1_call0_v102 : Ref sig .tc := ⟨.hbm, 392, rfl⟩
abbrev main_call1_call0_v103 : Ref sig .tc := ⟨.hbm, 393, rfl⟩
abbrev main_call1_call0_c_27 : Ref sig .tc := ⟨.hbm, 394, rfl⟩
abbrev main_call1_call0_v104 : Ref sig .tc := ⟨.hbm, 395, rfl⟩
abbrev main_call1_call0_v105 : Ref sig .tc := ⟨.hbm, 396, rfl⟩
abbrev main_call1_call0_c_28 : Ref sig .tc := ⟨.hbm, 397, rfl⟩
abbrev main_call1_call0_v106 : Ref sig .tc := ⟨.hbm, 398, rfl⟩
abbrev main_call1_call0_v107 : Ref sig .tc := ⟨.hbm, 399, rfl⟩
abbrev main_call1_call0_v108 : Ref sig .tc := ⟨.hbm, 400, rfl⟩
abbrev main_call1_call0_v109 : Ref sig .tc := ⟨.hbm, 401, rfl⟩
abbrev main_call1_call0_v110 : Ref sig .tc := ⟨.hbm, 402, rfl⟩
abbrev main_call1_call0_c_29 : Ref sig .tc := ⟨.hbm, 403, rfl⟩
abbrev main_call1_call0_v111 : Ref sig .tc := ⟨.hbm, 404, rfl⟩
abbrev main_call1_call0_v112 : Ref sig .tc := ⟨.hbm, 405, rfl⟩
abbrev main_call1_call0_c_30 : Ref sig .tc := ⟨.hbm, 406, rfl⟩
abbrev main_call1_call0_v113 : Ref sig .tc := ⟨.hbm, 407, rfl⟩
abbrev main_call1_call0_v114 : Ref sig .tc := ⟨.hbm, 408, rfl⟩
abbrev main_call1_call0_v115 : Ref sig .tc := ⟨.hbm, 409, rfl⟩
abbrev main_call1_call0_v116 : Ref sig .tc := ⟨.hbm, 410, rfl⟩
abbrev main_call1_call0_v117 : Ref sig .tc := ⟨.hbm, 411, rfl⟩
abbrev main_call1_call0_c_31 : Ref sig .tc := ⟨.hbm, 412, rfl⟩
abbrev main_call1_call0_v118 : Ref sig .tc := ⟨.hbm, 413, rfl⟩
abbrev main_call1_call0_v119 : Ref sig .tc := ⟨.hbm, 414, rfl⟩
abbrev main_call1_call0_c_32 : Ref sig .tc := ⟨.hbm, 415, rfl⟩
abbrev main_call1_call0_v120 : Ref sig .tc := ⟨.hbm, 416, rfl⟩
abbrev main_call1_call0_v121 : Ref sig .tc := ⟨.hbm, 417, rfl⟩
abbrev main_call1_call0_v122 : Ref sig .tc := ⟨.hbm, 418, rfl⟩
abbrev main_call1_call0_v123 : Ref sig .tc := ⟨.hbm, 419, rfl⟩
abbrev main_call1_call0_v124 : Ref sig .tc := ⟨.hbm, 420, rfl⟩
abbrev main_call1_call0_c_33 : Ref sig .tc := ⟨.hbm, 421, rfl⟩
abbrev main_call1_call0_v125 : Ref sig .tc := ⟨.hbm, 422, rfl⟩
abbrev main_call1_call0_v126 : Ref sig .tc := ⟨.hbm, 423, rfl⟩
abbrev main_call1_call0_c_34 : Ref sig .tc := ⟨.hbm, 424, rfl⟩
abbrev main_call1_call0_v127 : Ref sig .tc := ⟨.hbm, 425, rfl⟩
abbrev main_call1_call0_v128 : Ref sig .tc := ⟨.hbm, 426, rfl⟩
abbrev main_call1_call0_v129 : Ref sig .tc := ⟨.hbm, 427, rfl⟩
abbrev main_call1_call0_v130 : Ref sig .tc := ⟨.hbm, 428, rfl⟩
abbrev main_call1_call0_v131 : Ref sig .tc := ⟨.hbm, 429, rfl⟩
abbrev main_call1_call0_v132 : Ref sig .tc := ⟨.hbm, 430, rfl⟩
abbrev main_call1_call0_c_35 : Ref sig .tc := ⟨.hbm, 431, rfl⟩
abbrev main_call1_call0_v133 : Ref sig .tc := ⟨.hbm, 432, rfl⟩
abbrev main_call1_call0_v134 : Ref sig .tc := ⟨.hbm, 433, rfl⟩
abbrev main_call1_call0_v135 : Ref sig .tc := ⟨.hbm, 434, rfl⟩
abbrev main_call1_call0_c_36 : Ref sig .tc := ⟨.hbm, 435, rfl⟩
abbrev main_call1_call0_v136 : Ref sig .tc := ⟨.hbm, 436, rfl⟩
abbrev main_call1_call0_v137 : Ref sig .tc := ⟨.hbm, 437, rfl⟩
abbrev main_call1_call0_c_37 : Ref sig .tc := ⟨.hbm, 438, rfl⟩
abbrev main_call1_call0_v138 : Ref sig .tc := ⟨.hbm, 439, rfl⟩
abbrev main_call1_call0_v139 : Ref sig .tc := ⟨.hbm, 440, rfl⟩
abbrev main_call1_call0_v140 : Ref sig .tc := ⟨.hbm, 441, rfl⟩
abbrev main_call1_call0_v141 : Ref sig .tc := ⟨.hbm, 442, rfl⟩
abbrev main_call1_call0_v142 : Ref sig .tc := ⟨.hbm, 443, rfl⟩
abbrev main_call1_call0_c_38 : Ref sig .tc := ⟨.hbm, 444, rfl⟩
abbrev main_call1_call0_v143 : Ref sig .tc := ⟨.hbm, 445, rfl⟩
abbrev main_call1_call0_v144 : Ref sig .tc := ⟨.hbm, 446, rfl⟩
abbrev main_call1_call0_c_39 : Ref sig .tc := ⟨.hbm, 447, rfl⟩
abbrev main_call1_call0_v145 : Ref sig .tc := ⟨.hbm, 448, rfl⟩
abbrev main_call1_call0_v146 : Ref sig .tc := ⟨.hbm, 449, rfl⟩
abbrev main_call1_call0_v147 : Ref sig .tc := ⟨.hbm, 450, rfl⟩
abbrev main_call1_call0_v148 : Ref sig .tc := ⟨.hbm, 451, rfl⟩
abbrev main_call1_call0_v149 : Ref sig .tc := ⟨.hbm, 452, rfl⟩
abbrev main_call1_call0_c_40 : Ref sig .tc := ⟨.hbm, 453, rfl⟩
abbrev main_call1_call0_v150 : Ref sig .tc := ⟨.hbm, 454, rfl⟩
abbrev main_call1_call0_v151 : Ref sig .tc := ⟨.hbm, 455, rfl⟩
abbrev main_call1_call0_c_41 : Ref sig .tc := ⟨.hbm, 456, rfl⟩
abbrev main_call1_call0_v152 : Ref sig .tc := ⟨.hbm, 457, rfl⟩
abbrev main_call1_call0_v153 : Ref sig .tc := ⟨.hbm, 458, rfl⟩
abbrev main_call1_call0_v154 : Ref sig .tc := ⟨.hbm, 459, rfl⟩
abbrev main_call1_call0_v155 : Ref sig .tc := ⟨.hbm, 460, rfl⟩
abbrev main_call1_call0_v156 : Ref sig .tc := ⟨.hbm, 461, rfl⟩
abbrev main_call1_call0_c_42 : Ref sig .tc := ⟨.hbm, 462, rfl⟩
abbrev main_call1_call0_v157 : Ref sig .tc := ⟨.hbm, 463, rfl⟩
abbrev main_call1_call0_v158 : Ref sig .tc := ⟨.hbm, 464, rfl⟩
abbrev main_call1_call0_c_43 : Ref sig .tc := ⟨.hbm, 465, rfl⟩
abbrev main_call1_call0_v159 : Ref sig .tc := ⟨.hbm, 466, rfl⟩
abbrev main_call1_call0_v160 : Ref sig .tc := ⟨.hbm, 467, rfl⟩
abbrev main_call1_call0_v161 : Ref sig .tc := ⟨.hbm, 468, rfl⟩
abbrev main_call1_call0_v162 : Ref sig .tc := ⟨.hbm, 469, rfl⟩
abbrev main_call1_v6_0 : Ref sig .tc := ⟨.hbm, 470, rfl⟩
abbrev main_call1_call0_v164 : Ref sig .tc := ⟨.hbm, 471, rfl⟩
abbrev main_call1_call0_c_44 : Ref sig .tc := ⟨.hbm, 472, rfl⟩
abbrev main_call1_call0_v165 : Ref sig .tc := ⟨.hbm, 473, rfl⟩
abbrev main_call1_v6_1 : Ref sig .tc := ⟨.hbm, 474, rfl⟩
abbrev main_call1_v7 : Ref sig .tc := ⟨.hbm, 475, rfl⟩
abbrev main_call1_c_1 : Ref sig .tc := ⟨.hbm, 476, rfl⟩
abbrev main_call1_v8 : Ref sig .tc := ⟨.hbm, 477, rfl⟩
abbrev main_call1_v9 : Ref sig .tc := ⟨.hbm, 478, rfl⟩
abbrev main_call1_c_2 : Ref sig .tc := ⟨.hbm, 479, rfl⟩
abbrev main_call1_v10 : Ref sig .tc := ⟨.hbm, 480, rfl⟩
abbrev main_call1_v11 : Ref sig .tc := ⟨.hbm, 481, rfl⟩
abbrev main_call1_v12 : Ref sig .tc := ⟨.hbm, 482, rfl⟩
abbrev main_call1_cst : Ref sig .tc := ⟨.hbm, 483, rfl⟩
abbrev main_call1_v13 : Ref sig .tc := ⟨.hbm, 484, rfl⟩
abbrev main_call1_v14 : Ref sig .tc := ⟨.hbm, 485, rfl⟩
abbrev main_call1_v15 : Ref sig .tc := ⟨.hbm, 486, rfl⟩
abbrev main_call1_v16 : Ref sig .tc := ⟨.hbm, 487, rfl⟩
abbrev main_call1_v17 : Ref sig .tc := ⟨.hbm, 488, rfl⟩
abbrev main_call1_v18 : Ref sig .tc := ⟨.hbm, 489, rfl⟩
abbrev main_call1_v19 : Ref sig .tc := ⟨.hbm, 490, rfl⟩
abbrev main_call1_v20 : Ref sig .tc := ⟨.hbm, 491, rfl⟩
abbrev main_v9 : Ref sig .tc := ⟨.hbm, 492, rfl⟩
abbrev main_v10 : Ref sig .tc := ⟨.hbm, 493, rfl⟩
abbrev main_call2_call0_cst : Ref sig .tc := ⟨.hbm, 494, rfl⟩
abbrev main_call2_call0_v0 : Ref sig .tc := ⟨.hbm, 495, rfl⟩
abbrev main_v11 : Ref sig .tc := ⟨.hbm, 496, rfl⟩
abbrev main_v12 : Ref sig .tc := ⟨.hbm, 497, rfl⟩
abbrev main_v13 : Ref sig .tc := ⟨.hbm, 498, rfl⟩
abbrev main_cst_3 : Ref sig .tc := ⟨.hbm, 499, rfl⟩
abbrev main_v14 : Ref sig .tc := ⟨.hbm, 500, rfl⟩
abbrev main_v15 : Ref sig .tc := ⟨.hbm, 501, rfl⟩
abbrev main_v16 : Ref sig .tc := ⟨.hbm, 502, rfl⟩
abbrev main_v17 : Ref sig .tc := ⟨.hbm, 503, rfl⟩
abbrev main_v18 : Ref sig .tc := ⟨.hbm, 504, rfl⟩
abbrev main_v19 : Ref sig .tc := ⟨.hbm, 505, rfl⟩
abbrev main_v20 : Ref sig .tc := ⟨.hbm, 506, rfl⟩
abbrev main_c_4 : Ref sig .tc := ⟨.hbm, 507, rfl⟩
abbrev main_v21 : Ref sig .tc := ⟨.hbm, 508, rfl⟩
abbrev main_call3_c : Ref sig .tc := ⟨.hbm, 509, rfl⟩
abbrev main_call3_v0 : Ref sig .tc := ⟨.hbm, 510, rfl⟩
abbrev main_call3_v1 : Ref sig .tc := ⟨.hbm, 511, rfl⟩
abbrev main_call3_c_0 : Ref sig .tc := ⟨.hbm, 512, rfl⟩
abbrev main_call3_v2 : Ref sig .tc := ⟨.hbm, 513, rfl⟩
abbrev main_call3_v3 : Ref sig .tc := ⟨.hbm, 514, rfl⟩
abbrev main_call3_v4 : Ref sig .tc := ⟨.hbm, 515, rfl⟩
abbrev main_call3_v5 : Ref sig .tc := ⟨.hbm, 516, rfl⟩
abbrev main_call3_c_1 : Ref sig .tc := ⟨.hbm, 517, rfl⟩
abbrev main_call3_c_2 : Ref sig .tc := ⟨.hbm, 518, rfl⟩
abbrev main_call3_v6 : Ref sig .tc := ⟨.hbm, 519, rfl⟩
abbrev main_call3_v7 : Ref sig .tc := ⟨.hbm, 520, rfl⟩
abbrev main_call3_v8 : Ref sig .tc := ⟨.hbm, 521, rfl⟩
abbrev main_call3_v9 : Ref sig .tc := ⟨.hbm, 522, rfl⟩
abbrev main_call3_v10 : Ref sig .tc := ⟨.hbm, 523, rfl⟩
abbrev main_call3_v11 : Ref sig .tc := ⟨.hbm, 524, rfl⟩
abbrev main_call3_c_3 : Ref sig .tc := ⟨.hbm, 525, rfl⟩
abbrev main_call3_v12 : Ref sig .tc := ⟨.hbm, 526, rfl⟩
abbrev main_call3_v13 : Ref sig .tc := ⟨.hbm, 527, rfl⟩
abbrev main_call3_c_4 : Ref sig .tc := ⟨.hbm, 528, rfl⟩
abbrev main_call3_v14 : Ref sig .tc := ⟨.hbm, 529, rfl⟩
abbrev main_v22 : Ref sig .tc := ⟨.hbm, 530, rfl⟩
abbrev main_v23 : Ref sig .tc := ⟨.hbm, 531, rfl⟩
abbrev main_c_5 : Ref sig .tc := ⟨.hbm, 532, rfl⟩
abbrev main_v24 : Ref sig .tc := ⟨.hbm, 533, rfl⟩
abbrev main_v25 : Ref sig .tc := ⟨.hbm, 534, rfl⟩
abbrev main_c_6 : Ref sig .tc := ⟨.hbm, 535, rfl⟩
abbrev main_v26 : Ref sig .tc := ⟨.hbm, 536, rfl⟩
abbrev main_v27 : Ref sig .tc := ⟨.hbm, 537, rfl⟩
abbrev main_v28 : Ref sig .tc := ⟨.hbm, 538, rfl⟩
abbrev main_c_7 : Ref sig .tc := ⟨.hbm, 539, rfl⟩
abbrev main_v29 : Ref sig .tc := ⟨.hbm, 540, rfl⟩
abbrev main_v30 : Ref sig .tc := ⟨.hbm, 541, rfl⟩
abbrev main_c_8 : Ref sig .tc := ⟨.hbm, 542, rfl⟩
abbrev main_v31 : Ref sig .tc := ⟨.hbm, 543, rfl⟩
abbrev main_v32 : Ref sig .tc := ⟨.hbm, 544, rfl⟩
abbrev main_v33 : Ref sig .tc := ⟨.hbm, 545, rfl⟩
abbrev main_v34 : Ref sig .tc := ⟨.hbm, 546, rfl⟩
abbrev main_v35 : Ref sig .tc := ⟨.hbm, 547, rfl⟩
abbrev main_v36 : Ref sig .tc := ⟨.hbm, 548, rfl⟩
abbrev main_c_9 : Ref sig .tc := ⟨.hbm, 549, rfl⟩
abbrev main_v37 : Ref sig .tc := ⟨.hbm, 550, rfl⟩
abbrev main_v38 : Ref sig .tc := ⟨.hbm, 551, rfl⟩

abbrev nD : Nat := 1
abbrev τ : Topo := Topo.v7x

variable {F : FTy → Type} [FloatOps F]
-- ==== Proof.K.Spec.lean ====
module

public import Idealize.ShloMosaic.PureOps

@[expose] public section

noncomputable section

/-! What one block of the kernel computes, over any floating-point operations `F` and independently of a program:
the random draw from the seeds, the running sums of the weights, the threshold and the count. -/

namespace Cert.Sample

open Idealize.ShloMosaic

variable {F : FTy → Type} [FloatOps F]

/-- A row of 512 lanes. -/
abbrev Row : Shape := ⟨2, ![1, 512]⟩
/-- The eight running sums of a lane, for 512 lanes. -/
abbrev Oct : Shape := ⟨2, ![8, 512]⟩
/-- One entry of the scratch. -/
abbrev Oct1 : Shape := ⟨3, ![1, 8, 512]⟩
/-- A block of weights as it is staged. -/
abbrev Blk : Shape := ⟨2, ![1024, 512]⟩
/-- The scratch. -/
abbrev Loc : Shape := ⟨3, ![128, 8, 512]⟩

section Draw

variable {s : Shape}

/-- Rotate each word left by `a`, where `b = 32 - a`. -/
def rot (a b : BitVec 32) (x : IVec s 32) : IVec s 32 := ori (shli x (broadcast s a)) (shrui x (broadcast s b))

/-- One round of the threefry cipher on a pair of words. -/
def rnd (a b : BitVec 32) (x : IVec s 32 × IVec s 32) : IVec s 32 × IVec s 32 :=
  (addi x.1 x.2, xori (addi x.1 x.2) (rot a b x.2))

/-- The four rounds of the first kind. -/
def fourA (x : IVec s 32 × IVec s 32) : IVec s 32 × IVec s 32 :=
  rnd 6#32 26#32 (rnd 26#32 6#32 (rnd 15#32 17#32 (rnd 13#32 19#32 x)))

/-- The four rounds of the second kind. -/
def fourB (x : IVec s 32 × IVec s 32) : IVec s 32 × IVec s 32 :=
  rnd 24#32 8#32 (rnd 16#32 16#32 (rnd 29#32 3#32 (rnd 17#32 15#32 x)))

/-- Add two key words and a counter to a pair of words. -/
def inject (k k' : IVec s 32) (n : BitVec 32) (x : IVec s 32 × IVec s 32) : IVec s 32 × IVec s 32 :=
  (addi x.1 k, addi (addi x.2 k') (broadcast s n))

/-- The third key word. -/
def key2 (k0 k1 : IVec s 32) : IVec s 32 := xori (xori k0 k1) (broadcast s 466688986#32)

/-- The threefry cipher: the pair `x0, x1` under the key `k0, k1`. -/
def threefry (k0 k1 x0 x1 : IVec s 32) : IVec s 32 × IVec s 32 :=
  inject k2' k0 5#32 (fourA (inject k1 k2' 4#32 (fourB (inject k0 k1 3#32 (fourA (inject k2' k0 2#32 (fourB
    (inject k1 k2' 1#32 (fourA (addi x0 k0, addi x1 k1))))))))))
where k2' : IVec s 32 := key2 k0 k1

/-- The word drawn from each seed: the seed's key from the zero key, then the word of that key. -/
def bits (seed : IVec s 32) : IVec s 32 :=
  let z : IVec s 32 := broadcast s 0#32
  let k := threefry z z z seed
  let b := threefry k.1 k.2 z z
  xori b.1 b.2

/-- The number in `[0, 1)` drawn from each seed. -/
def unif (seed : IVec s 32) : FVec F s .f32 :=
  subf (bitcastToFloat .f32 (ori (shrui (bits seed) (broadcast s 9#32)) (broadcast s 1065353216#32)))
    (broadcast s (Scalar.ofBits .f32 0x3F800000#32))

end Draw

theorem casts_row : Row.ShapeCasts Row := by decide
theorem casts_oct : Oct.ShapeCasts Oct1 := by decide
theorem casts_oct1 : Oct1.ShapeCasts Oct := by decide
theorem slice_oct (g : Fin 8) : Oct.Slices ![g.val, 0] Row := by revert g; decide
theorem bcast_oct : Row.Broadcasts Oct := by decide
theorem iota_oct : Oct.Iotas .tc 32 [0] := by decide
theorem cat_oct : Shape.Concatenates [Row, Row, Row, Row, Row, Row, Row, Row] Oct 0 := by decide

/-- Row `g` of the running sums. -/
def octRow (x : FVec F Oct .f32) (g : Fin 8) : FVec F Row .f32 := extractStridedSlice Row ![g.val, 0] x (slice_oct g)

/-- Eight rows one below the other. -/
def stack (r0 r1 r2 r3 r4 r5 r6 r7 : FVec F Row .f32) : FVec F Oct .f32 :=
  concatenate Oct 0 [⟨Row, r0⟩, ⟨Row, r1⟩, ⟨Row, r2⟩, ⟨Row, r3⟩, ⟨Row, r4⟩, ⟨Row, r5⟩, ⟨Row, r6⟩, ⟨Row, r7⟩] cat_oct

/-- The sum of the first `g` rows, from zero and in order. -/
def pre (tot : FVec F Oct .f32) : Nat → FVec F Row .f32
  | 0 => broadcast Row (Scalar.ofBits .f32 0x00000000#32)
  | n + 1 => addf (pre tot n) (octRow tot (Fin.ofNat 8 n))

/-- What is added to each of the eight running sums: the totals of the rows above it. -/
def offsets (tot : FVec F Oct .f32) : FVec F Oct .f32 :=
  stack (pre tot 0) (pre tot 1) (pre tot 2) (pre tot 3) (pre tot 4) (pre tot 5) (pre tot 6) (pre tot 7)

/-- The threshold: the total weight of each lane, times one minus the number drawn. `tot7` holds the running sums
after 104 rows, `tot` after 128. -/
def thresh (seed : IVec Row 32) (tot7 tot : FVec F Oct .f32) : FVec F Oct .f32 :=
  broadcastTo Oct (shapeCast Row (mulf (addf (octRow (offsets tot) 7) (octRow tot7 7))
    (subf (broadcast Row (Scalar.ofBits .f32 0x3F800000#32)) (unif seed))) casts_row) bcast_oct

/-- One for the first seven of the eight running sums, zero for the last. -/
def mask7 : IVec Oct 32 :=
  extui 32 (cmpi .slt (iota .tc Oct 32 [0] iota_oct) (broadcast Oct 7#32)) (by decide)

end Cert.Sample

end
-- ==== Proof.K.Block.lean ====
module

public import proofs.«01_k».proof.Proof.K.Spec

@[expose] public section

noncomputable section

/-! What one block of the kernel computes from the block of weights and the row of seeds. -/

namespace Cert.Sample

open Idealize.ShloMosaic

variable {F : FTy → Type} [FloatOps F]

/-- A column of counts, one per lane. -/
abbrev Hist : Shape := ⟨2, ![1000, 512]⟩
/-- The lanes. -/
abbrev Lanes : Shape := ⟨1, ![512]⟩

theorem reduces_oct : Oct.Reduces [0] Lanes := by decide
theorem casts_lanes : Lanes.ShapeCasts Row := by decide
theorem iota_hist : Hist.Iotas .tc 32 [0] := by decide
theorem bcast_hist : Row.Broadcasts Hist := by decide

/-- Row `r` of a block of weights. -/
def blkRow (X : FVec F Blk .f32) (r : Nat) : FVec F Row .f32 := fun j => X fun a => match a with
  | 0 => Fin.ofNat 1024 r
  | 1 => j 1

/-- The eight running sums of each lane after `n` steps, in step order from zero: step `p` adds rows `p, p + 128, …`. -/
def acc (X : FVec F Blk .f32) : Nat → FVec F Oct .f32
  | 0 => broadcast Oct (Scalar.ofBits .f32 0x00000000#32)
  | p + 1 => addf (acc X p) (stack (blkRow X (p + 128 * 0)) (blkRow X (p + 128 * 1)) (blkRow X (p + 128 * 2))
      (blkRow X (p + 128 * 3)) (blkRow X (p + 128 * 4)) (blkRow X (p + 128 * 5)) (blkRow X (p + 128 * 6))
      (blkRow X (p + 128 * 7)))

/-- Entry `p` of the scratch: the running sums after step `p`. -/
def entry (X : FVec F Blk .f32) (p : Nat) : FVec F Oct1 .f32 := shapeCast Oct1 (acc X (p + 1)) casts_oct

/-- One where the cumulative sum lies below the threshold. -/
def below (offs r8 : FVec F Oct .f32) (v : FVec F Oct1 .f32) : IVec Oct 32 :=
  extui 32 (cmpf .olt (addf (shapeCast Oct v casts_oct1) offs) r8) (by decide)

/-- Eight entries' comparisons added up. -/
def eight (offs r8 : FVec F Oct .f32) (x0 x1 x2 x3 x4 x5 x6 x7 : FVec F Oct1 .f32) : IVec Oct 32 :=
  addi (addi (addi (below offs r8 x0) (below offs r8 x1)) (addi (below offs r8 x2) (below offs r8 x3)))
    (addi (addi (below offs r8 x4) (below offs r8 x5)) (addi (below offs r8 x6) (below offs r8 x7)))

/-- The same of entries `p` to `p + 7`. -/
def octet (e : Nat → FVec F Oct1 .f32) (offs r8 : FVec F Oct .f32) (p : Nat) : IVec Oct 32 :=
  eight offs r8 (e (p + 0)) (e (p + 1)) (e (p + 2)) (e (p + 3)) (e (p + 4)) (e (p + 5)) (e (p + 6)) (e (p + 7))

/-- The counts after `k` trips of the first loop. -/
def count1 (e : Nat → FVec F Oct1 .f32) (offs r8 : FVec F Oct .f32) : Nat → IVec Oct 32
  | 0 => broadcast Oct 0#32
  | k + 1 => addi (count1 e offs r8 k) (octet e offs r8 (8 * k))

/-- The counts after `k` trips of the second loop, in which the last running sum takes no part. -/
def count2 (e : Nat → FVec F Oct1 .f32) (offs r8 : FVec F Oct .f32) : Nat → IVec Oct 32
  | 0 => count1 e offs r8 13
  | k + 1 => addi (count2 e offs r8 k) (muli (octet e offs r8 (8 * k + 104)) mask7)

/-- The eight counts of each lane. -/
def counts (X : FVec F Blk .f32) (s : IVec Row 32) : IVec Oct 32 :=
  count2 (entry X) (offsets (acc X 128)) (thresh s (acc X 104) (acc X 128)) 3

/-- Each lane's eight counts added up. -/
def tally (b : IVec Oct 32) : IVec Row 32 := shapeCast Row (multiReductionI .add [0] Lanes b 0#32 reduces_oct rfl) casts_lanes

/-- One at each lane's drawn position, zero elsewhere. -/
def oneHot (b : IVec Oct 32) : IVec Hist 32 :=
  extui 32 (cmpi .eq (iota .tc Hist 32 [0] iota_hist) (broadcastTo Hist (shapeCast Row (tally b) casts_row) bcast_hist)) (by decide)

end Cert.Sample

end
-- ==== Proof.K.Rules.lean ====
module

public import Idealize.ShloMosaic.Lib.VecWindow

@[expose] public section

noncomputable section

/-! A load and a store of a window of a staging buffer, by the values the buffer holds. -/

namespace Cert.Sample

open Idealize.ShloMosaic
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A payload of the buffer's own sizes, put at the buffer's corner, is what the buffer then holds. -/
theorem put_whole {α : Type} {s : Shape} (x : s.Idx → α) (off : Fin s.rank → ℕ) (h : ∀ a, off a = 0) (w : s.Idx → α) :
    VecWindow.put x off s.size w = w := by
  funext y
  have hy : ∀ a, off a ≤ (y a).val ∧ (y a).val < off a + s.size a := fun a => by
    have := (y a).isLt; have := h a; omega
  unfold VecWindow.put
  rw [dif_pos hy]
  exact congrArg w (funext fun a => Fin.ext (by
    show (y a).val - off a = (y a).val
    rw [h a]; rfl))

/-- A load of a window of a buffer that holds `X` continues at that window of `X`. -/
theorem load_window {cs : CoreSpace} {m : Memref sig c.2.kind cs s e} {off size : Fin s.rank → ℕ}
    {inb : ∀ a, off a + size a ≤ s.size a} {hl : m.view.LoadsAt (Rect.unit off size inb).toLoadRect}
    {k : ((Rect.unit off size inb).shape.Idx → Val e) → Prog (TpuEff nD τ sig Val Λ c.2) α}
    {q : PosShare TreeShare} {X : s.Idx → Val e} :
    owns c m q X
      ⊢ iprop((owns c m q X -∗ wp frame (wpE defs 𝒱 c bd) E (k (VecWindow.window X off size inb)) Q)
        -∗ wp frame (wpE defs 𝒱 c bd) E (.op (.load m (Rect.unit off size inb).toLoadRect hl) k) Q) := by
  unfold owns
  iintro ⟨%f, %hf, H⟩ HK
  have hr : m.view.readAt Val (Rect.unit off size inb).toLoadRect f = VecWindow.window X off size inb := by
    rw [View.readAt_unit m.view f inb rfl inb, hf]
  iapply (wp_load 𝒱 c bd E (m := m) (r := (Rect.unit off size inb).toLoadRect) (hl := hl) (k := k) (f := f)
    (S := m.view.set) (q := q) (Q := Q) (View.setOn_subset_set _ _)) $$ H
  iintro H
  rw [hr]
  iapply HK
  iexists f
  isplitr; · ipureintro; exact hf
  iexact H

/-- A store over a window of a buffer that holds `X` leaves `X` with the payload put there. -/
theorem store_window {cs : CoreSpace} {m : Memref sig c.2.kind cs s e} {off size : Fin s.rank → ℕ}
    {inb : ∀ a, off a + size a ≤ s.size a} {w : (Rect.unit off size inb).shape.Idx → Val e}
    {hx : (m.access (Rect.unit off size inb)).Stores Finset.univ}
    {hm : Finset.univ = Finset.univ ∨ ∀ a, (Rect.unit off size inb).stride a = 1}
    {k : PUnit → Prog (TpuEff nD τ sig Val Λ c.2) α} {X : s.Idx → Val e} :
    owns c m fullShare X
      ⊢ iprop((owns c m fullShare (VecWindow.put X off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ HK
  have hr : m.view.read Val (m.view.writes Val f [⟨Rect.unit off size inb, w⟩]) = VecWindow.put X off size w := by
    rw [View.read_writes_cons_put m.view f inb w [] rfl, View.writes_nil, hf]
  iapply (wp_store_writes₀ 𝒱 c bd E (m := m) (r := Rect.unit off size inb) (w := w) (hx := hx) (hm := hm) (k := k) (f := f)
    (S := m.view.set) (Q := Q) (Memref.setOn_access_subset m _ _)) $$ H
  iintro H
  iapply HK
  iexists m.view.writes Val f [⟨Rect.unit off size inb, w⟩]
  isplitr; · ipureintro; exact hr
  iexact H

end Cert.Sample

end
-- ==== Proof.KI.Unrolled.lean ====
module

public import proofs.«01_k».proof.Proof.Gen.KernelIdeal.Skeleton
public import proofs.«01_k».proof.Proof.K.Block
public import Idealize.ShloMosaic.Lib.Pipeline.Regions

@[expose] public section

noncomputable section

/-! The kernel's body with its 128 unrolled steps written as one step repeated. -/

namespace Cert.KernelIdeal.Own

open Idealize.ShloMosaic Idealize.SL.Sem Cert.KernelIdeal Cert.KernelIdeal.Gen Cert.Sample

variable {F : FTy → Type} [FloatOps F]

theorem inb_blk (r : Nat) (h : r < 1024) : ∀ a, (![r, 0] : Fin 2 → Nat) a + S1x512.size a ≤ S1024x512.size a := by
  intro a; match a with
  | 0 => simp [Shape.size]; omega
  | 1 => simp [Shape.size]

theorem inb_loc (p : Nat) (h : p < 128) : ∀ a, (![p, 0, 0] : Fin 3 → Nat) a + S1x8x512.size a ≤ S128x8x512.size a := by
  intro a; match a with
  | 0 => simp [Shape.size]; omega
  | 1 => simp [Shape.size]
  | 2 => simp [Shape.size]

theorem pos_row : 0 < S1x512.numel := by decide
theorem pos_oct1 : 0 < S1x8x512.numel := by decide
theorem pos_hist : 0 < S1000x512.numel := by decide
theorem inb_row : ∀ a, (![0, 0] : Fin 2 → Nat) a + S1x512.size a ≤ S1x512.size a := by decide
theorem inb_hist : ∀ a, (![0, 0] : Fin 2 → Nat) a + S1000x512.size a ≤ S1000x512.size a := by decide

/-- Load row `r` of the weights. -/
def row (arg1 : Memref sig .tc .vmem S1024x512 .f32) (r : Nat) (h : r < 1024) :
    Prog (TpuEff nD τ sig (Elt F) Λ₀ .tc) (Vec F S1x512 .f32) :=
  Prog.lift (.load arg1 (Rect.unit (s := S1024x512) ![r, 0] S1x512.size (inb_blk r h)).toLoadRect (View.loadsAt_vmem pos_row))

/-- Step `p`: rows `p, p + 128, …` of the weights are added to the running sums, and these stored as entry `p` of the
scratch; then `k` continues with the new running sums. -/
def step (arg1 : Memref sig .tc .vmem S1024x512 .f32) (arg5 : Memref sig .tc .vmem S128x8x512 .f32) (p : Nat) (h : p < 128)
    (acc : FVec F S8x512 .f32) (k : FVec F S8x512 .f32 → Prog (TpuEff nD τ sig (Elt F) Λ₀ .tc) PUnit) :
    Prog (TpuEff nD τ sig (Elt F) Λ₀ .tc) PUnit := do
  let w0 ← row arg1 (p + 128 * 0) (by omega)
  let w1 ← row arg1 (p + 128 * 1) (by omega)
  let w2 ← row arg1 (p + 128 * 2) (by omega)
  let w3 ← row arg1 (p + 128 * 3) (by omega)
  let w4 ← row arg1 (p + 128 * 4) (by omega)
  let w5 ← row arg1 (p + 128 * 5) (by omega)
  let w6 ← row arg1 (p + 128 * 6) (by omega)
  let w7 ← row arg1 (p + 128 * 7) (by omega)
  let acc' : FVec F S8x512 .f32 := addf acc (stack (shapeCast S1x512 w0 casts_row) (shapeCast S1x512 w1 casts_row)
    (shapeCast S1x512 w2 casts_row) (shapeCast S1x512 w3 casts_row) (shapeCast S1x512 w4 casts_row)
    (shapeCast S1x512 w5 casts_row) (shapeCast S1x512 w6 casts_row) (shapeCast S1x512 w7 casts_row))
  let _ : Vec F S1x8x512 .f32 ← Prog.lift (.load arg5 (Rect.unit (s := S128x8x512) ![p, 0, 0] S1x8x512.size (inb_loc p h)).toLoadRect (View.loadsAt_vmem pos_oct1))
  Prog.lift (.store arg5 (Rect.unit (s := S128x8x512) ![p, 0, 0] S1x8x512.size (inb_loc p h)) (shapeCast S1x8x512 acc' casts_oct) Finset.univ (View.stores_vmem_bits_univ pos_oct1 rfl) (.inl rfl))
  k acc'

/-- Steps `p` up to `p + n`. -/
def steps (arg1 : Memref sig .tc .vmem S1024x512 .f32) (arg5 : Memref sig .tc .vmem S128x8x512 .f32) :
    (n p : Nat) → p + n ≤ 128 → FVec F S8x512 .f32 → (FVec F S8x512 .f32 → Prog (TpuEff nD τ sig (Elt F) Λ₀ .tc) PUnit) →
      Prog (TpuEff nD τ sig (Elt F) Λ₀ .tc) PUnit
  | 0, _, _, acc, k => k acc
  | n + 1, p, h, acc, k => step arg1 arg5 p (by omega) acc fun acc' => steps arg1 arg5 n (p + 1) (by omega) acc' k

/-- What follows the steps: the two counting loops and the two results. -/
def rest (i : grid0.Coords) (arg1 : Memref sig .tc .vmem S1024x512 .f32) (harg1 : arg1.IsWhole) (arg2 : Memref sig .tc .vmem S1x512 .i32) (harg2 : arg2.IsWhole) (arg3 : Memref sig .tc .vmem S1x512 .i32) (harg3 : arg3.IsWhole) (arg4 : Memref sig .tc .vmem S1000x512 .i32) (harg4 : arg4.IsWhole) (arg5 : Memref sig .tc .vmem S128x8x512 .f32) (harg5 : arg5.IsWhole)
    (offs r8 : FVec F S8x512 .f32) : Prog (TpuEff nD τ sig (Elt F) Λ₀ .tc) PUnit := do
  let a ← Scf.Loop.for k0_t1_loop K0.Facts₀.k0_t1_ok (broadcast S8x512 0#32) (k0_t1_body i arg1 harg1 arg2 harg2 arg3 harg3 arg4 harg4 arg5 harg5 offs r8 0#32)
  let b ← Scf.Loop.for k0_t2_loop K0.Facts₀.k0_t2_ok a (k0_t2_body i arg1 harg1 arg2 harg2 arg3 harg3 arg4 harg4 arg5 harg5 offs r8 mask7)
  let _ : Vec F S1x512 .i32 ← Prog.lift (.load arg3 (Rect.unit (s := S1x512) ![0, 0] S1x512.size inb_row).toLoadRect (View.loadsAt_vmem pos_row))
  Prog.lift (.store arg3 (Rect.unit (s := S1x512) ![0, 0] S1x512.size inb_row) (k0_pay3 b) Finset.univ (View.stores_vmem_bits_univ pos_row rfl) (.inl rfl))
  let _ : Vec F S1000x512 .i32 ← Prog.lift (.load arg4 (Rect.unit (s := S1000x512) ![0, 0] S1000x512.size inb_hist).toLoadRect (View.loadsAt_vmem pos_hist))
  Prog.lift (.store arg4 (Rect.unit (s := S1000x512) ![0, 0] S1000x512.size inb_hist) (k0_pay4 b) Finset.univ (View.stores_vmem_bits_univ pos_hist rfl) (.inl rfl))
  pure ⟨⟩

/-- The kernel's body. -/
def body (i : grid0.Coords) (arg1 : Memref sig .tc .vmem S1024x512 .f32) (harg1 : arg1.IsWhole) (arg2 : Memref sig .tc .vmem S1x512 .i32) (harg2 : arg2.IsWhole) (arg3 : Memref sig .tc .vmem S1x512 .i32) (harg3 : arg3.IsWhole) (arg4 : Memref sig .tc .vmem S1000x512 .i32) (harg4 : arg4.IsWhole) (arg5 : Memref sig .tc .vmem S128x8x512 .f32) (harg5 : arg5.IsWhole) :
    Prog (TpuEff nD τ sig (Elt F) Λ₀ .tc) PUnit := do
  let v0 : Vec F S1x512 .i32 ← Prog.lift (.load arg2 (Rect.unit (s := S1x512) ![0, 0] S1x512.size inb_row).toLoadRect (View.loadsAt_vmem pos_row))
  steps arg1 arg5 104 0 (by omega) (broadcast S8x512 (Scalar.ofBits .f32 0x00000000#32)) fun tot7 =>
    steps arg1 arg5 24 104 (by omega) tot7 fun tot =>
      rest i arg1 harg1 arg2 harg2 arg3 harg3 arg4 harg4 arg5 harg5 (offsets tot)
        (thresh (shapeCast S1x512 v0 casts_row) tot7 tot)

set_option maxRecDepth 100000 in
/-- The printed body is this one, by unfolding. -/
theorem body_eq : cc0__sample_kernel (F := F) = body (F := F) := by chain_rfl

/-- One entry of the scratch. -/
def load5 (arg5 : Memref sig .tc .vmem S128x8x512 .f32) (off : Fin 3 → ℕ) (inb : ∀ a, off a + S1x8x512.size a ≤ S128x8x512.size a) :
    Prog (TpuEff nD τ sig (Elt F) Λ₀ .tc) (Vec F S1x8x512 .f32) :=
  Prog.lift (.load arg5 (Rect.unit (s := S128x8x512) off S1x8x512.size inb).toLoadRect (View.loadsAt_vmem pos_oct1))

/-- One trip of a counting loop: eight entries of the scratch are loaded, and `f` of their comparisons is yielded. -/
def trip (arg5 : Memref sig .tc .vmem S128x8x512 .f32) (off : BitVec 32 → Fin 3 → ℕ)
    (inb : ∀ (r : Fin 8) a, off (BitVec.ofNat 32 r.val) a + S1x8x512.size a ≤ S128x8x512.size a)
    (offs r8 : FVec F S8x512 .f32) (f : IVec S8x512 32 → IVec S8x512 32) :
    Prog (TpuEff nD τ sig (Elt F) Λ₀ .tc) (IVec S8x512 32) := do
  let x0 ← load5 arg5 (off 0#32) (inb 0)
  let x1 ← load5 arg5 (off 1#32) (inb 1)
  let x2 ← load5 arg5 (off 2#32) (inb 2)
  let x3 ← load5 arg5 (off 3#32) (inb 3)
  let x4 ← load5 arg5 (off 4#32) (inb 4)
  let x5 ← load5 arg5 (off 5#32) (inb 5)
  let x6 ← load5 arg5 (off 6#32) (inb 6)
  let x7 ← load5 arg5 (off 7#32) (inb 7)
  pure (f (eight offs r8 x0 x1 x2 x3 x4 x5 x6 x7))

section Trips

variable (i : grid0.Coords) (arg1 : Memref sig .tc .vmem S1024x512 .f32) (harg1 : arg1.IsWhole) (arg2 : Memref sig .tc .vmem S1x512 .i32) (harg2 : arg2.IsWhole)
  (arg3 : Memref sig .tc .vmem S1x512 .i32) (harg3 : arg3.IsWhole) (arg4 : Memref sig .tc .vmem S1000x512 .i32) (harg4 : arg4.IsWhole)
  (arg5 : Memref sig .tc .vmem S128x8x512 .f32) (harg5 : arg5.IsWhole) (offs r8 : FVec F S8x512 .f32) (a : IVec S8x512 32)

/-- The first loop's printed trip, by unfolding. -/
theorem t1_eq (k : Fin k0_t1_loop.trips) :
    k0_t1_body i arg1 harg1 arg2 harg2 arg3 harg3 arg4 harg4 arg5 harg5 offs r8 0#32 k a
      = trip arg5 (k0_off1 k) (k0_off1_inb k) offs r8 (fun s => addi a s) := rfl

/-- The second loop's. -/
theorem t2_eq (k : Fin k0_t2_loop.trips) :
    k0_t2_body i arg1 harg1 arg2 harg2 arg3 harg3 arg4 harg4 arg5 harg5 offs r8 mask7 k a
      = trip arg5 (k0_off2 k) (k0_off2_inb k) offs r8 (fun s => addi a (muli s mask7)) := rfl

end Trips

end Cert.KernelIdeal.Own

end
-- ==== Proof.KI.Triple.lean ====
module

public import proofs.«01_k».proof.Proof.Gen.KernelIdeal.Loops
public import proofs.«01_k».proof.Proof.K.Block
public import proofs.«01_k».proof.Proof.K.Rules
public import proofs.«01_k».proof.Proof.KI.Unrolled
public import Idealize.ShloMosaic.Lib.Pipeline.Value

@[expose] public section

noncomputable section

/-! What the kernel's body leaves in its staging buffers. -/

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Sample

variable {F : FTy → Type} [FloatOps F]

local notation "𝕄G" => MT nD τ sig Unit (Elt F) ℕ (UR sig nD τ) ℕ

/-- Row `r` of a block is its window of one row. -/
theorem window_blk (X : FVec F S1024x512 .f32) (r : Nat) (h : r < 1024) :
    VecWindow.window X ![r, 0] S1x512.size (inb_blk r h) = blkRow X r := by
  funext j
  refine congrArg X (funext fun a => ?_)
  match a with
  | 0 =>
    refine Fin.ext ?_
    show r + 1 * (j 0).val = r % 1024
    have h0 : (j 0).val < 1 := (j 0).isLt
    rw [Nat.mod_eq_of_lt h]; omega
  | 1 =>
    refine Fin.ext ?_
    show 0 + 1 * (j 1).val = (j 1).val
    omega

/-- The same, as the kernel reads it. -/
theorem row_blk (X : FVec F S1024x512 .f32) (r : Nat) (h : r < 1024) :
    shapeCast S1x512 (VecWindow.window X ![r, 0] S1x512.size (inb_blk r h)) casts_row = blkRow X r :=
  (shapeCast_self _ _).trans (window_blk X r h)

/-- The scratch holds the running sums at its first `n` entries. -/
def Filled (X : FVec F S1024x512 .f32) (n : Nat) (L : FVec F S128x8x512 .f32) : Prop :=
  ∀ (p : Nat) (h : p < 128), p < n → VecWindow.window L ![p, 0, 0] S1x8x512.size (inb_loc p h) = entry X p

/-- Storing the next running sums fills one more entry. -/
theorem Filled.put {X : FVec F S1024x512 .f32} {n : Nat} {L : FVec F S128x8x512 .f32} (hL : Filled X n L) :
    Filled X (n + 1) (VecWindow.put L ![n, 0, 0] S1x8x512.size (entry X n)) := by
  intro p h hp
  by_cases e : p = n
  · subst e; exact VecWindow.window_put_same L _ _ (inb_loc p h) _
  · rw [VecWindow.window_put_of_disjoint L ![n, 0, 0] S1x8x512.size ![p, 0, 0] S1x8x512.size (inb_loc p h) _ 0
      (Or.inl (show p + 1 ≤ n by omega))]
    exact hL p h (by omega)

variable (𝒱 : Variants) (c : Dev nD) (bd : Option 𝒱.V) (E : Set ℕ)

/-- One step: the next running sums go into the scratch and on to the continuation. -/
theorem wp_step (arg1 : Memref sig .tc .vmem S1024x512 .f32) (arg5 : Memref sig .tc .vmem S128x8x512 .f32) (p : Nat) (h : p < 128)
    (X : FVec F S1024x512 .f32) (k : FVec F S8x512 .f32 → Prog (TpuEff nD τ sig (Elt F) Λ₀ .tc) PUnit)
    (Q : PUnit → sProp 𝕄G) :
    iprop(owns (c : Thread nD τ) arg1 fullShare X ∗ (∃ L, ⌜Filled X p L⌝ ∗ owns (c : Thread nD τ) arg5 fullShare L))
      ⊢ iprop((iprop(owns (c : Thread nD τ) arg1 fullShare X ∗ (∃ L, ⌜Filled X (p + 1) L⌝ ∗ owns (c : Thread nD τ) arg5 fullShare L))
          -∗ wp frame (wpE (defs₀ (F := F)) 𝒱 (c : Thread nD τ) bd) E (k (acc X (p + 1))) Q)
        -∗ wp frame (wpE (defs₀ (F := F)) 𝒱 (c : Thread nD τ) bd) E (step arg1 arg5 p h (acc X p) k) Q) := by
  unfold step row
  simp only [Prog.lift, Prog.bind_op, Prog.bind_ret]
  iintro ⟨H1, %L, %hL, H5⟩ HK
  iapply (load_window 𝒱 (c : Thread nD τ) bd E) $$ H1
  iintro H1
  iapply (load_window 𝒱 (c : Thread nD τ) bd E) $$ H1
  iintro H1
  iapply (load_window 𝒱 (c : Thread nD τ) bd E) $$ H1
  iintro H1
  iapply (load_window 𝒱 (c : Thread nD τ) bd E) $$ H1
  iintro H1
  iapply (load_window 𝒱 (c : Thread nD τ) bd E) $$ H1
  iintro H1
  iapply (load_window 𝒱 (c : Thread nD τ) bd E) $$ H1
  iintro H1
  iapply (load_window 𝒱 (c : Thread nD τ) bd E) $$ H1
  iintro H1
  iapply (load_window 𝒱 (c : Thread nD τ) bd E) $$ H1
  iintro H1
  iapply (load_window 𝒱 (c : Thread nD τ) bd E) $$ H5
  iintro H5
  iapply (store_window 𝒱 (c : Thread nD τ) bd E) $$ H5
  iintro H5
  have e : addf (acc X p) (stack
      (shapeCast S1x512 (VecWindow.window X ![p + 128 * 0, 0] S1x512.size (inb_blk _ (by omega))) casts_row)
      (shapeCast S1x512 (VecWindow.window X ![p + 128 * 1, 0] S1x512.size (inb_blk _ (by omega))) casts_row)
      (shapeCast S1x512 (VecWindow.window X ![p + 128 * 2, 0] S1x512.size (inb_blk _ (by omega))) casts_row)
      (shapeCast S1x512 (VecWindow.window X ![p + 128 * 3, 0] S1x512.size (inb_blk _ (by omega))) casts_row)
      (shapeCast S1x512 (VecWindow.window X ![p + 128 * 4, 0] S1x512.size (inb_blk _ (by omega))) casts_row)
      (shapeCast S1x512 (VecWindow.window X ![p + 128 * 5, 0] S1x512.size (inb_blk _ (by omega))) casts_row)
      (shapeCast S1x512 (VecWindow.window X ![p + 128 * 6, 0] S1x512.size (inb_blk _ (by omega))) casts_row)
      (shapeCast S1x512 (VecWindow.window X ![p + 128 * 7, 0] S1x512.size (inb_blk _ (by omega))) casts_row))
      = acc X (p + 1) := by
    rw [row_blk X _ (by omega), row_blk X _ (by omega), row_blk X _ (by omega), row_blk X _ (by omega), row_blk X _ (by omega),
      row_blk X _ (by omega), row_blk X _ (by omega), row_blk X _ (by omega)]
    rfl
  rw [e]
  iapply HK
  isplitl [H1]; · iexact H1
  iexists VecWindow.put L ![p, 0, 0] S1x8x512.size (entry X p)
  isplitr; · ipureintro; exact hL.put
  iexact H5

/-- `n` steps from step `p`. -/
theorem wp_steps (arg1 : Memref sig .tc .vmem S1024x512 .f32) (arg5 : Memref sig .tc .vmem S128x8x512 .f32)
    (X : FVec F S1024x512 .f32) (k : FVec F S8x512 .f32 → Prog (TpuEff nD τ sig (Elt F) Λ₀ .tc) PUnit)
    (Q : PUnit → sProp 𝕄G) (n p : Nat) (h : p + n ≤ 128) :
    iprop(owns (c : Thread nD τ) arg1 fullShare X ∗ (∃ L, ⌜Filled X p L⌝ ∗ owns (c : Thread nD τ) arg5 fullShare L))
      ⊢ iprop((iprop(owns (c : Thread nD τ) arg1 fullShare X ∗ (∃ L, ⌜Filled X (p + n) L⌝ ∗ owns (c : Thread nD τ) arg5 fullShare L))
          -∗ wp frame (wpE (defs₀ (F := F)) 𝒱 (c : Thread nD τ) bd) E (k (acc X (p + n))) Q)
        -∗ wp frame (wpE (defs₀ (F := F)) 𝒱 (c : Thread nD τ) bd) E (steps arg1 arg5 n p h (acc X p) k) Q) := by
  induction n generalizing p with
  | zero =>
    iintro H HK
    iapply HK
    iexact H
  | succ n ih =>
    unfold steps
    iintro H HK
    iapply (wp_step 𝒱 c bd E arg1 arg5 p _ X _ Q) $$ H
    iintro H
    iapply (ih (p + 1) _) $$ H
    rw [show p + 1 + n = p + (n + 1) by omega]
    iexact HK

/-- An entry of the filled scratch, at an offset that works out to it. -/
theorem Filled.at {X : FVec F S1024x512 .f32} {L : FVec F S128x8x512 .f32} (hL : Filled X 128 L) {off : Fin 3 → ℕ}
    (p : Nat) (h : off = ![p, 0, 0]) (inb : ∀ a, off a + S1x8x512.size a ≤ S128x8x512.size a) :
    VecWindow.window L off S1x8x512.size inb = entry X p := by
  subst h
  have h0 : p + 1 ≤ 128 := inb 0
  exact hL p (by omega) (by omega)

/-- One trip of a counting loop, whose offsets work out to entries `p` to `p + 7` of the filled scratch. -/
theorem wp_trip (arg5 : Memref sig .tc .vmem S128x8x512 .f32) (off : BitVec 32 → Fin 3 → ℕ)
    (inb : ∀ (r : Fin 8) a, off (BitVec.ofNat 32 r.val) a + S1x8x512.size a ≤ S128x8x512.size a)
    (offs r8 : FVec F S8x512 .f32) (f : IVec S8x512 32 → IVec S8x512 32) (X : FVec F S1024x512 .f32) (p : Nat)
    (h : ∀ r : Fin 8, off (BitVec.ofNat 32 r.val) = ![p + r.val, 0, 0]) :
    iprop(∃ L, ⌜Filled X 128 L⌝ ∗ owns (c : Thread nD τ) arg5 fullShare L)
      ⊢ (wp frame (wpE (defs₀ (F := F)) 𝒱 (c : Thread nD τ) bd) E (trip arg5 off inb offs r8 f)
          (fun y => iprop(⌜y = f (octet (entry X) offs r8 p)⌝ ∗ (∃ L, ⌜Filled X 128 L⌝ ∗ owns (c : Thread nD τ) arg5 fullShare L))) : sProp 𝕄G) := by
  unfold trip load5
  simp only [Prog.lift, Prog.bind_op, Prog.bind_ret]
  iintro ⟨%L, %hL, H5⟩
  iapply (load_window 𝒱 (c : Thread nD τ) bd E) $$ H5
  iintro H5
  iapply (load_window 𝒱 (c : Thread nD τ) bd E) $$ H5
  iintro H5
  iapply (load_window 𝒱 (c : Thread nD τ) bd E) $$ H5
  iintro H5
  iapply (load_window 𝒱 (c : Thread nD τ) bd E) $$ H5
  iintro H5
  iapply (load_window 𝒱 (c : Thread nD τ) bd E) $$ H5
  iintro H5
  iapply (load_window 𝒱 (c : Thread nD τ) bd E) $$ H5
  iintro H5
  iapply (load_window 𝒱 (c : Thread nD τ) bd E) $$ H5
  iintro H5
  iapply (load_window 𝒱 (c : Thread nD τ) bd E) $$ H5
  iintro H5
  have e : eight offs r8 (VecWindow.window L (off 0#32) S1x8x512.size (inb 0)) (VecWindow.window L (off 1#32) S1x8x512.size (inb 1))
      (VecWindow.window L (off 2#32) S1x8x512.size (inb 2)) (VecWindow.window L (off 3#32) S1x8x512.size (inb 3))
      (VecWindow.window L (off 4#32) S1x8x512.size (inb 4)) (VecWindow.window L (off 5#32) S1x8x512.size (inb 5))
      (VecWindow.window L (off 6#32) S1x8x512.size (inb 6)) (VecWindow.window L (off 7#32) S1x8x512.size (inb 7))
      = octet (entry X) offs r8 p := by
    rw [hL.at _ (show off 0#32 = _ from h 0), hL.at _ (show off 1#32 = _ from h 1), hL.at _ (show off 2#32 = _ from h 2),
      hL.at _ (show off 3#32 = _ from h 3), hL.at _ (show off 4#32 = _ from h 4), hL.at _ (show off 5#32 = _ from h 5),
      hL.at _ (show off 6#32 = _ from h 6), hL.at _ (show off 7#32 = _ from h 7)]
    rfl
  rw [e]
  iapply (le_wp_ret _ _ _ _ _)
  isplitr; · ipureintro; rfl
  iexists L
  isplitr; · ipureintro; exact hL
  iexact H5

/-- The first loop's invariant: the counts of the entries gone through, and the scratch. -/
def inv1 (arg5 : Memref sig .tc .vmem S128x8x512 .f32) (X : FVec F S1024x512 .f32) (offs r8 : FVec F S8x512 .f32)
    (k : Nat) (a : IVec S8x512 32) : sProp 𝕄G :=
  iprop(⌜a = count1 (entry X) offs r8 k⌝ ∗ (∃ L, ⌜Filled X 128 L⌝ ∗ owns (c : Thread nD τ) arg5 fullShare L))

/-- The second loop's. -/
def inv2 (arg5 : Memref sig .tc .vmem S128x8x512 .f32) (X : FVec F S1024x512 .f32) (offs r8 : FVec F S8x512 .f32)
    (k : Nat) (a : IVec S8x512 32) : sProp 𝕄G :=
  iprop(⌜a = count2 (entry X) offs r8 k⌝ ∗ (∃ L, ⌜Filled X 128 L⌝ ∗ owns (c : Thread nD τ) arg5 fullShare L))

section Loops

variable (i : grid0.Coords) (arg1 : Memref sig .tc .vmem S1024x512 .f32) (harg1 : arg1.IsWhole) (arg2 : Memref sig .tc .vmem S1x512 .i32) (harg2 : arg2.IsWhole)
  (arg3 : Memref sig .tc .vmem S1x512 .i32) (harg3 : arg3.IsWhole) (arg4 : Memref sig .tc .vmem S1000x512 .i32) (harg4 : arg4.IsWhole)
  (arg5 : Memref sig .tc .vmem S128x8x512 .f32) (harg5 : arg5.IsWhole)

/-- One trip of the first loop counts eight more entries. -/
theorem trip1 (X : FVec F S1024x512 .f32) (offs r8 : FVec F S8x512 .f32) (k : Fin k0_t1_loop.trips) (a : IVec S8x512 32) :
    inv1 c arg5 X offs r8 k.val a
      ⊢ wp frame (wpE (defs₀ (F := F)) 𝒱 (c : Thread nD τ) bd) E
          (k0_t1_body i arg1 harg1 arg2 harg2 arg3 harg3 arg4 harg4 arg5 harg5 offs r8 0#32 k a) (inv1 c arg5 X offs r8 (k.val + 1)) := by
  rw [t1_eq]
  unfold inv1
  iintro ⟨%ha, H⟩
  subst ha
  iapply (wp_trip 𝒱 c bd E arg5 (k0_off1 k) (k0_off1_inb k) offs r8 (fun s => addi (count1 (entry X) offs r8 k.val) s) X
    (8 * k.val) (fun r => k0_off1_eq k r))
  iexact H

/-- One trip of the second loop counts eight more entries, for the first seven running sums. -/
theorem trip2 (X : FVec F S1024x512 .f32) (offs r8 : FVec F S8x512 .f32) (k : Fin k0_t2_loop.trips) (a : IVec S8x512 32) :
    inv2 c arg5 X offs r8 k.val a
      ⊢ wp frame (wpE (defs₀ (F := F)) 𝒱 (c : Thread nD τ) bd) E
          (k0_t2_body i arg1 harg1 arg2 harg2 arg3 harg3 arg4 harg4 arg5 harg5 offs r8 mask7 k a) (inv2 c arg5 X offs r8 (k.val + 1)) := by
  rw [t2_eq]
  unfold inv2
  iintro ⟨%ha, H⟩
  subst ha
  iapply (wp_trip 𝒱 c bd E arg5 (k0_off2 k) (k0_off2_inb k) offs r8 (fun s => addi (count2 (entry X) offs r8 k.val) (muli s mask7)) X
    (8 * k.val + 104) (fun r => (k0_off2_eq k r).trans (by rw [Nat.add_right_comm])))
  iexact H

/-- What the loops and the stores leave: the counts added up in the first result's buffer, and their positions in the
second's. -/
theorem wp_rest (X : FVec F S1024x512 .f32) (offs r8 : FVec F S8x512 .f32) (Y3 : IVec S1x512 32) (Y4 : IVec S1000x512 32)
    (Q : PUnit → sProp 𝕄G) :
    iprop((∃ L, ⌜Filled X 128 L⌝ ∗ owns (c : Thread nD τ) arg5 fullShare L)
        ∗ owns (c : Thread nD τ) arg3 fullShare Y3 ∗ owns (c : Thread nD τ) arg4 fullShare Y4)
      ⊢ iprop((iprop((∃ L, owns (c : Thread nD τ) arg5 fullShare L)
          ∗ owns (c : Thread nD τ) arg3 fullShare (tally (count2 (entry X) offs r8 3))
          ∗ owns (c : Thread nD τ) arg4 fullShare (oneHot (count2 (entry X) offs r8 3))) -∗ Q ⟨⟩)
        -∗ wp frame (wpE (defs₀ (F := F)) 𝒱 (c : Thread nD τ) bd) E
            (rest i arg1 harg1 arg2 harg2 arg3 harg3 arg4 harg4 arg5 harg5 offs r8) Q) := by
  unfold rest
  simp only [Prog.lift, Prog.bind_op, Prog.bind_ret]
  iintro ⟨H5, H3, H4⟩ HK
  have hz : ∀ a, (![0, 0] : Fin 2 → Nat) a = 0 := by decide
  have e3 : ∀ w : IVec S1x512 32, VecWindow.put Y3 ![0, 0] S1x512.size w = w := fun w => put_whole (s := S1x512) Y3 _ hz w
  have e4 : ∀ w : IVec S1000x512 32, VecWindow.put Y4 ![0, 0] S1000x512.size w = w := fun w => put_whole (s := S1000x512) Y4 _ hz w
  iapply (Scf.wp_for_bind frame (wpE (defs₀ (F := F)) 𝒱 (c : Thread nD τ) bd) E k0_t1_loop.lb k0_t1_loop.ub k0_t1_loop.st _ _ _
    (inv1 c arg5 X offs r8) (trip1 𝒱 c bd E i arg1 harg1 arg2 harg2 arg3 harg3 arg4 harg4 arg5 harg5 X offs r8)) $$ [H5]
  · unfold inv1
    isplitr; · ipureintro; rfl
    iexact H5
  iintro %a Ha
  iapply (Scf.wp_for_bind frame (wpE (defs₀ (F := F)) 𝒱 (c : Thread nD τ) bd) E k0_t2_loop.lb k0_t2_loop.ub k0_t2_loop.st _ _ _
    (inv2 c arg5 X offs r8) (trip2 𝒱 c bd E i arg1 harg1 arg2 harg2 arg3 harg3 arg4 harg4 arg5 harg5 X offs r8)) $$ [Ha]
  · unfold inv1 inv2
    iexact Ha
  iintro %b Hb
  unfold inv2
  icases Hb with ⟨%hb, H5⟩
  iapply (load_window 𝒱 (c : Thread nD τ) bd E) $$ H3
  iintro H3
  iapply (store_window 𝒱 (c : Thread nD τ) bd E) $$ H3
  iintro H3
  iapply (load_window 𝒱 (c : Thread nD τ) bd E) $$ H4
  iintro H4
  iapply (store_window 𝒱 (c : Thread nD τ) bd E) $$ H4
  iintro H4
  subst hb
  rw [e3, e4]
  iapply (le_wp_ret _ _ _ _ _)
  iapply HK
  isplitl [H5]
  · icases H5 with ⟨%L, %hL, H5⟩
    iexists L
    iexact H5
  isplitl [H3]
  · iexact H3
  · iexact H4

/-- What the body leaves, from any contents of the results' buffers and of the scratch: the weights and the seeds as they
were, the drawn positions in the first result's buffer, and these marked in the second's. -/
theorem wp_body (X : FVec F S1024x512 .f32) (s : IVec S1x512 32) (Y3 : IVec S1x512 32) (Y4 : IVec S1000x512 32)
    (Q : PUnit → sProp 𝕄G) :
    iprop(owns (c : Thread nD τ) arg1 fullShare X ∗ owns (c : Thread nD τ) arg2 fullShare s
        ∗ owns (c : Thread nD τ) arg3 fullShare Y3 ∗ owns (c : Thread nD τ) arg4 fullShare Y4
        ∗ (∃ L, owns (c : Thread nD τ) arg5 fullShare L))
      ⊢ iprop((iprop(owns (c : Thread nD τ) arg1 fullShare X ∗ owns (c : Thread nD τ) arg2 fullShare s
          ∗ owns (c : Thread nD τ) arg3 fullShare (tally (counts X s)) ∗ owns (c : Thread nD τ) arg4 fullShare (oneHot (counts X s))
          ∗ (∃ L, owns (c : Thread nD τ) arg5 fullShare L)) -∗ Q ⟨⟩)
        -∗ wp frame (wpE (defs₀ (F := F)) 𝒱 (c : Thread nD τ) bd) E
            (cc0__sample_kernel i arg1 harg1 arg2 harg2 arg3 harg3 arg4 harg4 arg5 harg5) Q) := by
  rw [body_eq]
  unfold body
  simp only [Prog.lift, Prog.bind_op, Prog.bind_ret]
  iintro ⟨H1, H2, H3, H4, %L, H5⟩ HK
  iapply (load_window 𝒱 (c : Thread nD τ) bd E) $$ H2
  iintro H2
  have es : shapeCast S1x512 (VecWindow.window s ![0, 0] S1x512.size inb_row) casts_row = s := by
    refine (shapeCast_self _ _).trans (funext fun j => congrArg s (funext fun a => Fin.ext ?_))
    match a with
    | 0 => exact (show 0 + 1 * (j 0).val = (j 0).val by omega)
    | 1 => exact (show 0 + 1 * (j 1).val = (j 1).val by omega)
  rw [es]
  iapply (wp_steps 𝒱 c bd E arg1 arg5 X _ Q 104 0 _) $$ [H1 H5]
  · isplitl [H1]; · iexact H1
    iexists L
    isplitr; · ipureintro; exact fun p _ hp => absurd hp (Nat.not_lt_zero p)
    iexact H5
  iintro H
  iapply (wp_steps 𝒱 c bd E arg1 arg5 X _ Q 24 104 _) $$ H
  iintro ⟨H1, H5⟩
  iapply (wp_rest 𝒱 c bd E i arg1 harg1 arg2 harg2 arg3 harg3 arg4 harg4 arg5 harg5 X _ _ Y3 Y4 Q) $$ [H3 H4 H5]
  · isplitl [H5]; · iexact H5
    isplitl [H3]; · iexact H3
    iexact H4
  iintro ⟨H5, H3, H4⟩
  iapply HK
  isplitl [H1]; · iexact H1
  isplitl [H2]; · iexact H2
  isplitl [H3]; · iexact H3
  isplitl [H4]; · iexact H4
  iexact H5

end Loops

end Cert.KernelIdeal.Own

end
-- ==== Proof.K.Read.lean ====
module

public import proofs.«01_k».proof.Proof.K.Block
public import Idealize.ShloMosaic.Lib.Pointwise.Tactic
public import Idealize.ShloMosaic.Lib.Pipeline.ValueKit.Tiles

@[expose] public section

noncomputable section

/-! What one block of the kernel computes, read lane by lane. -/

namespace Cert.Sample

open Idealize.ShloMosaic Idealize.ShloMosaic.Pointwise

variable {F : FTy → Type} [FloatOps F]

/-- A row of the stack is the row stacked there. -/
theorem stack_apply (r0 r1 r2 r3 r4 r5 r6 r7 : FVec F Row .f32) (g : Fin 8) (l : Fin 512) :
    stack r0 r1 r2 r3 r4 r5 r6 r7 (ix2 g l) = (![r0, r1, r2, r3, r4, r5, r6, r7] g) (ix2 0 l) := by
  exact concatenate_ofFn_apply (t := Oct) (s₁ := Row) 0 (N := 8) ![r0, r1, r2, r3, r4, r5, r6, r7] cat_oct rfl 1 rfl (ix2 g l) g
    (Nat.div_one _) (ix2 0 l) (Nat.mod_one _).symm (fun b hb => by
      match b with
      | 0 => exact absurd rfl hb
      | 1 => rfl)

/-- A step adds one row of weights to each of the running sums. -/
theorem acc_succ (X : FVec F Blk .f32) (p : Nat) (g : Fin 8) (l : Fin 512) :
    acc X (p + 1) (ix2 g l) = FloatOps.addf (acc X p (ix2 g l)) (X (ix2 (Fin.ofNat 1024 (p + 128 * g.val)) l)) := by
  show FloatOps.addf (acc X p (ix2 g l)) (stack _ _ _ _ _ _ _ _ (ix2 g l)) = _
  rw [stack_apply]
  congr 1
  fin_cases g <;> exact congrArg X (funext fun a => by fin_cases a <;> rfl)

end Cert.Sample

end
-- ==== Proof.K.Lane.lean ====
module

public import proofs.«01_k».proof.Proof.K.Read
public import Idealize.ShloMosaic.Lib.Pointwise.Reduce
public import Idealize.ShloMosaic.Lib.Pipeline.Value
public import Mathlib.Data.BitVec
public import Mathlib.Algebra.BigOperators.Intervals

@[expose] public section

noncomputable section

/-! One lane of the kernel: a thousand weights and a number drawn give a position. -/

namespace Cert.Sample

open Idealize.ShloMosaic Idealize.ShloMosaic.Pointwise
open Finset (range)

variable {F : FTy → Type} [FloatOps F]

/-- The number drawn from one seed. -/
def draw (x : BitVec 32) : F .f32 := unif (s := ⟨0, ![]⟩) (fun _ => x) (fun a => a.elim0)

/-- The sum of the weights `128 g, 128 g + 1, …`, `n` of them, in order and from zero. -/
def laneRun (w : ℕ → F .f32) (g : ℕ) : ℕ → F .f32
  | 0 => FloatOps.ofBits .f32 0x00000000#32
  | p + 1 => FloatOps.addf (laneRun w g p) (w (p + 128 * g))

/-- The sum of the first `g` whole groups of 128 weights. -/
def lanePre (w : ℕ → F .f32) : ℕ → F .f32
  | 0 => FloatOps.ofBits .f32 0x00000000#32
  | g + 1 => FloatOps.addf (lanePre w g) (laneRun w g 128)

/-- The cumulative sum up to weight `128 g + p`. -/
def laneCum (w : ℕ → F .f32) (g p : ℕ) : F .f32 := FloatOps.addf (laneRun w g (p + 1)) (lanePre w g)

/-- The sum of all weights. -/
def laneTotal (w : ℕ → F .f32) : F .f32 := FloatOps.addf (lanePre w 7) (laneRun w 7 104)

/-- The threshold for the number `u`. -/
def laneThresh (w : ℕ → F .f32) (u : F .f32) : F .f32 :=
  FloatOps.mulf (laneTotal w) (FloatOps.subf (FloatOps.ofBits .f32 0x3F800000#32) u)

/-- One if the cumulative sum up to weight `128 g + p` lies below the threshold. -/
def laneBelow (w : ℕ → F .f32) (u : F .f32) (g p : ℕ) : BitVec 32 :=
  BitVec.setWidth 32 (FloatOps.cmpf .olt (laneCum w g p) (laneThresh w u))

/-- The position drawn: how many of the thousand cumulative sums lie below the threshold. -/
def laneTally (w : ℕ → F .f32) (u : F .f32) : BitVec 32 :=
  (∑ g ∈ range 7, ∑ p ∈ range 128, laneBelow w u g p) + ∑ p ∈ range 104, laneBelow w u 7 p

section Congr

variable {w w' : ℕ → F .f32} (h : ∀ r, r < 1000 → w r = w' r)
include h

theorem laneRun_congr (g n : ℕ) (hn : n + 128 * g ≤ 1000) : laneRun w g n = laneRun w' g n := by
  induction n with
  | zero => rfl
  | succ n ih => exact congrArg₂ (FloatOps.addf (F := F) (φ := .f32)) (ih (by omega)) (h _ (by omega))

theorem lanePre_congr (g : ℕ) (hg : g ≤ 7) : lanePre w g = lanePre w' g := by
  induction g with
  | zero => rfl
  | succ g ih => exact congrArg₂ (FloatOps.addf (F := F) (φ := .f32)) (ih (by omega)) (laneRun_congr h g 128 (by omega))

theorem laneThresh_congr (u : F .f32) : laneThresh w u = laneThresh w' u := by
  unfold laneThresh laneTotal
  rw [lanePre_congr h 7 le_rfl, laneRun_congr h 7 104 (by omega)]

theorem laneBelow_congr (u : F .f32) (g p : ℕ) (hp : p + 128 * g < 1000) (hg : g ≤ 7) : laneBelow w u g p = laneBelow w' u g p := by
  unfold laneBelow laneCum
  rw [lanePre_congr h g hg, laneRun_congr h g (p + 1) (by omega), laneThresh_congr h]

/-- The position depends on the thousand weights only. -/
theorem laneTally_congr (u : F .f32) : laneTally w u = laneTally w' u := by
  unfold laneTally
  refine congrArg₂ _ (Finset.sum_congr rfl fun g hg => Finset.sum_congr rfl fun p hp => ?_) (Finset.sum_congr rfl fun p hp => ?_)
  · have := Finset.mem_range.1 hg; have := Finset.mem_range.1 hp
    exact laneBelow_congr h u g p (by omega) (by omega)
  · have := Finset.mem_range.1 hp
    exact laneBelow_congr h u 7 p (by omega) (by omega)

end Congr

/-! ### The block, lane by lane -/

/-- The weights of lane `l`. -/
def laneW (X : FVec F Blk .f32) (l : Fin 512) (r : ℕ) : F .f32 := X (ix2 (Fin.ofNat 1024 r) l)

theorem unif_apply {s : Shape} (x : IVec s 32) (j : s.Idx) : unif (F := F) x j = draw (x j) := rfl

theorem acc_apply (X : FVec F Blk .f32) (n : ℕ) (g : Fin 8) (l : Fin 512) : acc X n (ix2 g l) = laneRun (laneW X l) g.val n := by
  induction n with
  | zero => rfl
  | succ n ih => rw [acc_succ, ih]; rfl

theorem octRow_apply (x : FVec F Oct .f32) (g : Fin 8) (l : Fin 512) : octRow x g (ix2 0 l) = x (ix2 g l) := by
  unfold octRow
  pointwise

theorem pre_apply (X : FVec F Blk .f32) (n : ℕ) (hn : n ≤ 7) (l : Fin 512) :
    pre (acc X 128) n (ix2 0 l) = lanePre (laneW X l) n := by
  induction n with
  | zero => rfl
  | succ n ih =>
    refine congrArg₂ (FloatOps.addf (F := F) (φ := .f32)) (ih (by omega)) ?_
    rw [octRow_apply, acc_apply]
    exact congrArg (fun g => laneRun (laneW X l) g 128) (Nat.mod_eq_of_lt (by omega))

theorem offsets_apply (X : FVec F Blk .f32) (g : Fin 8) (l : Fin 512) :
    offsets (acc X 128) (ix2 g l) = lanePre (laneW X l) g.val := by
  unfold offsets
  rw [stack_apply]
  fin_cases g <;> exact pre_apply X _ (by decide) l

theorem thresh_apply (X : FVec F Blk .f32) (s : IVec Row 32) (g : Fin 8) (l : Fin 512) :
    thresh s (acc X 104) (acc X 128) (ix2 g l) = laneThresh (laneW X l) (draw (s (ix2 0 l))) := by
  unfold thresh
  rw [shapeCast_self]
  pointwise
  rw [octRow_apply, octRow_apply, offsets_apply, acc_apply]
  rfl

theorem below_apply (X : FVec F Blk .f32) (s : IVec Row 32) (p : ℕ) (g : Fin 8) (l : Fin 512) :
    below (offsets (acc X 128)) (thresh s (acc X 104) (acc X 128)) (entry X p) (ix2 g l)
      = laneBelow (laneW X l) (draw (s (ix2 0 l))) g.val p := by
  unfold below entry
  rw [shapeCast_shapeCast]
  show BitVec.setWidth 32 (FloatOps.cmpf .olt (FloatOps.addf (acc X (p + 1) (ix2 g l)) (offsets (acc X 128) (ix2 g l)))
    (thresh s (acc X 104) (acc X 128) (ix2 g l))) = _
  rw [acc_apply, offsets_apply, thresh_apply]
  rfl

theorem octet_apply (X : FVec F Blk .f32) (s : IVec Row 32) (p : ℕ) (g : Fin 8) (l : Fin 512) :
    octet (entry X) (offsets (acc X 128)) (thresh s (acc X 104) (acc X 128)) p (ix2 g l)
      = ∑ q ∈ range 8, laneBelow (laneW X l) (draw (s (ix2 0 l))) g.val (p + q) := by
  have e : ∀ q, below (offsets (acc X 128)) (thresh s (acc X 104) (acc X 128)) (entry X (p + q)) (ix2 g l)
      = laneBelow (laneW X l) (draw (s (ix2 0 l))) g.val (p + q) := fun q => below_apply X s (p + q) g l
  simp only [Finset.sum_range_succ, Finset.sum_range_zero, zero_add, ← e]
  show ((_ + _) + (_ + _)) + ((_ + _) + (_ + _)) = _
  abel

theorem count1_apply (X : FVec F Blk .f32) (s : IVec Row 32) (k : ℕ) (g : Fin 8) (l : Fin 512) :
    count1 (entry X) (offsets (acc X 128)) (thresh s (acc X 104) (acc X 128)) k (ix2 g l)
      = ∑ p ∈ range (8 * k), laneBelow (laneW X l) (draw (s (ix2 0 l))) g.val p := by
  induction k with
  | zero => rfl
  | succ k ih =>
    rw [Nat.mul_succ, Finset.sum_range_add, ← ih, ← octet_apply]
    rfl

theorem mask7_apply (g : Fin 8) (l : Fin 512) : mask7 (ix2 g l) = if g.val < 7 then 1#32 else 0#32 := by
  unfold mask7
  pointwise
  fin_cases g <;> rfl

theorem count2_apply (X : FVec F Blk .f32) (s : IVec Row 32) (k : ℕ) (g : Fin 8) (l : Fin 512) :
    count2 (entry X) (offsets (acc X 128)) (thresh s (acc X 104) (acc X 128)) k (ix2 g l)
      = ∑ p ∈ range (if g.val < 7 then 104 + 8 * k else 104), laneBelow (laneW X l) (draw (s (ix2 0 l))) g.val p := by
  induction k with
  | zero =>
    rw [show (if g.val < 7 then 104 + 8 * 0 else 104) = 8 * 13 by split <;> rfl, ← count1_apply]
    rfl
  | succ k ih =>
    show _ + (octet (entry X) _ _ (8 * k + 104) (ix2 g l)) * mask7 (ix2 g l) = _
    rw [mask7_apply, ih, octet_apply]
    split
    · rw [Nat.mul_succ, ← Nat.add_assoc, Finset.sum_range_add _ (104 + 8 * k) 8, Nat.add_comm 104 (8 * k), BitVec.mul_one]
    · rw [BitVec.mul_zero, BitVec.add_zero]

/-- The position of each lane, from its weights and its seed. -/
theorem tally_apply (X : FVec F Blk .f32) (s : IVec Row 32) (l : Fin 512) :
    tally (counts X s) (ix2 0 l) = laneTally (laneW X l) (draw (s (ix2 0 l))) := by
  have e : tally (counts X s) (ix2 0 l) = ∑ g : Fin 8, counts X s (ix2 g l) := by
    refine (shapeCast_addUnit_apply ![512] (multiReductionI .add [0] Lanes (counts X s) 0#32 reduces_oct rfl) casts_lanes (ix2 0 l)).trans ?_
    refine (reduceFold_add_eq_sum reduces_oct 0#32 (counts X s) _).trans ?_
    exact (BitVec.zero_add _).trans (reduces_oct.sum_fiber_r2_a0 _ (counts X s))
  rw [e, Fin.sum_univ_castSucc]
  unfold laneTally
  rw [Finset.sum_range]
  refine congrArg₂ _ (Finset.sum_congr rfl fun g _ => ?_) ?_
  · exact (count2_apply X s 3 _ l).trans (by rw [if_pos (show (Fin.castSucc g).val < 7 from g.isLt)]; rfl)
  · exact count2_apply X s 3 (Fin.last 7) l

/-- An index of a row is its lane. -/
theorem row_idx (j : Row.Idx) : j = ix2 (n0 := 1) (n1 := 512) 0 (j 1) := funext fun a => by
  match a with
  | 0 => exact Fin.ext (by have : (j 0).val < 1 := (j 0).isLt; show (j 0).val = 0; omega)
  | 1 => rfl

/-- The positions depend on the first thousand rows of the block only. -/
theorem tally_congr (X X' : FVec F Blk .f32) (s : IVec Row 32) (h : ∀ (r : Fin 1024) (l : Fin 512), r.val < 1000 → X (ix2 r l) = X' (ix2 r l)) :
    tally (counts X s) = tally (counts X' s) := by
  funext j
  obtain ⟨l, rfl⟩ : ∃ l : Fin 512, j = ix2 0 l := ⟨j 1, row_idx j⟩
  rw [tally_apply, tally_apply]
  exact laneTally_congr (fun r hr => h _ _ (by show r % 1024 < 1000; omega)) _

/-- The positions marked in a column, from the positions. -/
theorem oneHot_apply (b : IVec Oct 32) (k : Fin 1000) (l : Fin 512) :
    oneHot b (ix2 k l) = BitVec.setWidth 32 (IntOp.cmpi .eq (BitVec.ofNat 32 k.val) (tally b (ix2 0 l))) := by
  unfold oneHot
  rw [shapeCast_self]
  pointwise

end Cert.Sample

end
-- ==== Proof.KI.Launch.lean ====
module

public import proofs.«01_k».proof.Proof.Gen.KernelIdeal.Frame
public import proofs.«01_k».proof.Proof.KI.Triple
public import proofs.«01_k».proof.Proof.K.Lane
public import Idealize.ShloMosaic.Lib.Pipeline.ClipFacts

@[expose] public section

set_option maxRecDepth 16384

noncomputable section

/-! The run of the whole program: every point's blocks, the region, the host lines around it. -/

namespace Cert.KernelIdeal.Own

open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)
open Cert.KernelIdeal Cert.KernelIdeal.Gen Cert.Sample

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- A point's block of weights filled out to the staging buffer's shape with the words `d`. -/
def filled (c : Dev nD) (t : Fin cfg0.N) (d : S1024x512.Idx → F .f32) : FVec F S1024x512 .f32 :=
  win0_0.fill (grid0.coords t) d (iblk m c 0 t)

/-- The same, filled out with zeros. -/
def wblk (c : Dev nD) (t : Fin cfg0.N) : FVec F S1024x512 .f32 := filled m c t fun _ => FloatOps.ofBits .f32 0x00000000#32

/-- A point's block of seeds. -/
def sblk (c : Dev nD) (t : Fin cfg0.N) : IVec S1x512 32 := iblk m c 1 t

/-- The proof data: the arrays as the region finds them, the buffers after each point's body, everything owned whole. -/
def dats (_ : Fin 1) (c : Dev nD) : Dat τ (Elt F) Unit ℕ (UR sig nD τ) ℕ cfg0 c where
  A w := V m c (Pipeline.arrRef spec0 w)
  after w t := match w with
    | ⟨0, _⟩ => wblk m c t
    | ⟨1, _⟩ => sblk m c t
    | ⟨2, _⟩ => tally (counts (wblk m c t) (sblk m c t))
    | ⟨3, _⟩ => oneHot (counts (wblk m c t) (sblk m c t))
  Φ _ := Pipeline.ΦA spec0 c
  q _ := fullShare
  owed _ := 0

/-- The weights' window moves the first thousand rows of a block. -/
theorem moved_row (i : grid0.Coords) (r : Fin 1024) (l : Fin 512) (h : r.val < 1000) : win0_0.moved i (ix2 r l) = true := by
  refine (win0_0.moved_iff i _).mpr fun a => ?_
  match a with
  | 0 => exact h
  | 1 =>
    have hi : (i 0).val < 32 := (i 0).isLt
    show l.val < (Pipeline.Clip.of (BitVec.ofNat 32 (i 0).val).toNat 512 16384).extent 512
    rw [Pipeline.Clip.extent_of_inb (by rw [BitVec.toNat_ofNat, Nat.mod_eq_of_lt (by omega)]; omega)]
    exact l.isLt

/-- On those rows the words a block is filled out with do not matter. -/
theorem filled_apply (c : Dev nD) (t : Fin cfg0.N) (d : S1024x512.Idx → F .f32) (r : Fin 1024) (l : Fin 512) (h : r.val < 1000) :
    filled m c t d (ix2 r l) = wblk m c t (ix2 r l) := by
  have hm := moved_row (grid0.coords t) r l h
  unfold wblk filled Window.fill
  rw [dif_pos hm, dif_pos hm]

/-- What the words past the array's end are does not matter to the positions. -/
theorem tally_filled (c : Dev nD) (t : Fin cfg0.N) (d : S1024x512.Idx → F .f32) :
    tally (counts (filled m c t d) (sblk m c t)) = tally (counts (wblk m c t) (sblk m c t)) :=
  tally_congr _ _ _ fun r l h => filled_apply m c t d r l h

theorem oneHot_filled (c : Dev nD) (t : Fin cfg0.N) (d : S1024x512.Idx → F .f32) :
    oneHot (counts (filled m c t d) (sblk m c t)) = oneHot (counts (wblk m c t) (sblk m c t)) := by
  unfold oneHot
  rw [tally_filled]

theorem before_0 (c : Dev nD) (t : Fin cfg0.N) (d) : (dats m 0 c).before (0 : Fin 4) t d = filled m c t d := by
  unfold Dat.before; rw [if_pos (fetch0_0 t)]; rfl

theorem before_1 (c : Dev nD) (t : Fin cfg0.N) (d) : (dats m 0 c).before (1 : Fin 4) t d = sblk m c t :=
  before0_1_of m (dats m 0 c) rfl (fun _ => rfl) t d

/-- The scratch, at whatever it holds, among what the region holds besides its windows. -/
theorem scratch_eq (c : Dev nD) : (Pipeline.ΦA spec0 c : sProp 𝕄G)
    = iprop((∃ L, owns (c : Thread nD τ) (Memref.whole cc0_scratch0) fullShare L) ∗ ∃ r, prngReg c r) := by
  unfold Pipeline.ΦA
  rw [scopedRest0_eq]
  exact congrArg (fun H : sProp 𝕄G => iprop(H ∗ ∃ r, prngReg c r))
    (((Memref.isWhole_whole cc0_scratch0).exists_owns_eq (c := (c : Thread nD τ)) fullShare).symm)

/-- The weights' buffer handed back: what the point moved into it is still there. -/
theorem hand_back (c : Dev nD) (t : Fin cfg0.N) (d : S1024x512.Idx → F .f32) :
    (owns (c : Thread nD τ) (stage0_0 ((cfg0.slots t 0).cast nbuf0_0)) fullShare (filled m c t d) : sProp 𝕄G)
      ⊢ iprop(∃ d, owns (c : Thread nD τ) (win0_0.stage (cfg0.slots t 0)) fullShare
          (win0_0.fill (grid0.coords t) d (win0_0.cut (grid0.coords t) (wblk m c t)))) := by
  have hx : win0_0.cut (grid0.coords t) (wblk m c t) = iblk m c 0 t := win0_0.cut_fill _ _ _
  rw [hx]
  iintro H
  iexists d
  iexact H

/-- The body's obligation at every point. -/
theorem body_obligation (c : Dev nD) : BodyObligationLoose (dats m 0 c) (defs₀ (F := F)) Variants.none () Set.univ := fun t => by
  rw [bigSep_W0, bigSep_W0]
  simp only
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, scratch_eq]
  iintro ⟨⟨HL, Hr⟩, Ho, ⟨%d0, H0⟩, ⟨%d1, H1⟩, ⟨%d2, H2⟩, ⟨%d3, H3⟩⟩
  rw [before_0 m c t d0, before_1 m c t d1]
  iapply (wp_body Variants.none c none Set.univ (grid0.coords t) _ (hstage0_0 ((cfg0.slots t 0).cast nbuf0_0)) _
    (hstage0_1 ((cfg0.slots t 1).cast nbuf0_1)) _ (hstage0_2 ((cfg0.slots t 2).cast nbuf0_2)) _
    (hstage0_3 ((cfg0.slots t 3).cast nbuf0_3)) _ _ (filled m c t d0) (sblk m c t) _ _ _) $$ [HL H0 H1 H2 H3]
  · isplitl [H0]; · iexact H0
    isplitl [H1]; · iexact H1
    isplitl [H2]; · iexact H2
    isplitl [H3]; · iexact H3
    iexact HL
  iintro ⟨H0, H1, H2, H3, HL⟩
  isplitl [HL Hr]
  · isplitl [HL]; · iexact HL
    iexact Hr
  isplitl [Ho]; · iexact Ho
  rw [tally_filled, oneHot_filled]
  isplitl [H0]; · iapply (hand_back m c t d0) $$ H0
  isplitl [H1]; · iexact H1
  isplitl [H2]; · iexact H2
  iexact H3

set_option backward.isDefEq.respectTransparency.types false in
/-- The run: the windows' arrays end at what the points left there, every other buffer at what the host lines left. -/
theorem run : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around cfgs (dats m) 0 launch0 defs₀ Variants.none m ρ main (body_obligation m)
    (fun c => (dats m 0 c).share_full fun _ => rfl) (fun _ _ => rfl) (V0 m) [hostOps1] sfx_sub sfx_fresh sfx_keeps
    (hmain m Variants.none) (fun _ _ => rfl) (fun _ _ => rfl) _ (fun _ h => h)

/-- The program ends, its arguments as launched and no semaphore raised. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
      ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c)⟩, h.2⟩)
    (run m ρ)

end Cert.KernelIdeal.Own

end
-- ==== Proof.KI.Value.lean ====
module

public import proofs.«01_k».proof.Proof.KI.Launch
public import Idealize.ShloMosaic.Lib.Pipeline.ValueKit
public import Idealize.ShloMosaic.Lib.StableHlo.Run

@[expose] public section

set_option maxRecDepth 16384

noncomputable section

/-! What the program's two results hold at the end, one row at a time. -/

namespace Cert.KernelIdeal.Own

open Idealize.ShloMosaic Idealize.ShloMosaic.TcCoe Idealize.ShloMosaic.Pointwise Idealize.SL.Sem
open Idealize.ShloMosaic.Pipeline (Dat Cfg Window)
open Cert.KernelIdeal Cert.KernelIdeal.Gen Cert.Sample

variable {F : FTy → Type} [FloatOps F]

variable (m : (ℓ : Loc nD τ sig) → Buf (Elt F) ℓ) (ρ : Dev nD → PrngReg) (c : Dev nD)

/-- The weights, the table and the seeds as launched. -/
abbrev argW : FVec F S16384x1000 .f32 := m ((c : Thread nD τ).loc main_arg0)
abbrev argS : IVec S16384 32 := m ((c : Thread nD τ).loc main_arg2)

/-- A row's weights, by number. -/
def rowW (b : Fin 16384) (k : ℕ) : F .f32 := if h : k < 1000 then argW m c (ix2 b ⟨k, h⟩) else FloatOps.ofBits .f32 0x00000000#32

/-- The position drawn for a row. -/
def place (b : Fin 16384) : BitVec 32 := laneTally (rowW m c b) (draw (argS m c (ix1 b)))

/-- Two operations, one after the other. -/
theorem after_pair (a b : HloOp τ sig (Elt F)) (V : Valuation τ sig (Elt F)) : StableHlo.after [a, b] V = b.result (a.result V) := rfl

/-- The region finds the weights transposed. -/
theorem entry_weights : V m c main_v0 = transpose S1000x16384 [1, 0] (argW m c) transposes_S16384x1000_S1000x16384_1_0 := by
  show StableHlo.after hostOps0 (fun b => m (c, b)) (Proc.devRef .tc main_v0) = _
  unfold hostOps0
  rw [after_pair, StableHlo.reshape_result_ne (h := (by decide : main_v0 ≠ main_v1)), StableHlo.unary_result]

/-- The region finds the seeds as one row. -/
theorem entry_seeds : V m c main_v1 = fun i => shapeCast S1x16384 (argS m c) shapeCasts_S16384_S1x16384 i := by
  show StableHlo.after hostOps0 (fun b => m (c, b)) (Proc.devRef .tc main_v1) = _
  unfold hostOps0
  rw [after_pair, StableHlo.reshape_result, StableHlo.unary_result_ne (h := (by decide : main_arg2 ≠ main_v0))]
  rfl

theorem entry_weights_apply (k : Fin 1000) (b : Fin 16384) :
    (V m c main_v0 : FVec F S1000x16384 .f32) (ix2 k b) = argW m c (ix2 b k) := by
  rw [entry_weights]
  exact transpose_apply _ _ _ _ _ fun a => match a with
    | ⟨0, _⟩ => rfl
    | ⟨1, _⟩ => rfl

theorem entry_seeds_apply (b : Fin 16384) :
    (V m c main_v1 : IVec S1x16384 32) (ix2 0 b) = argS m c (ix1 b) := by
  rw [entry_seeds]
  exact shapeCast_apply _ _ _ _ (by
    rw [Shape.rowMajor_val_one, Shape.rowMajor_val_two]
    show b.val = 0 * 16384 + b.val
    omega)

/-- The row a lane of a point works on. -/
def colAt (t : Fin cfg0.N) (l : Fin 512) : Fin 16384 := ⟨t.val * 512 + l.val, by have h : t.val < 32 := t.isLt; omega⟩

theorem index_0 : ∀ t : Fin cfg0.N, win0_0.index t = ![0, t.val] := by decide +kernel
theorem index_1 : ∀ t : Fin cfg0.N, win0_1.index t = ![0, t.val] := by decide +kernel
theorem index_2 : ∀ t : Fin cfg0.N, win0_2.index t = ![0, t.val] := by decide +kernel
theorem index_3 : ∀ t : Fin cfg0.N, win0_3.index t = ![0, t.val] := by decide +kernel

/-- A lane of a point's seeds. -/
theorem sblk_apply (t : Fin cfg0.N) (l : Fin 512) : sblk m c t (ix2 0 l) = argS m c (ix1 (colAt t l)) := by
  rw [← entry_seeds_apply]
  unfold sblk iblk
  refine congrArg (V m c main_v1) (funext fun a => Fin.ext ?_)
  blk_simp [index_1]
  match a with
  | ⟨0, _⟩ => rfl
  | ⟨1, _⟩ => rfl

/-- A lane of a point's weights. -/
theorem wblk_apply (t : Fin cfg0.N) (l : Fin 512) (k : Fin 1024) (h : k.val < 1000) :
    wblk m c t (ix2 k l) = argW m c (ix2 (colAt t l) ⟨k.val, h⟩) := by
  rw [← entry_weights_apply]
  unfold wblk filled Window.fill
  rw [dif_pos (moved_row (grid0.coords t) k l h)]
  unfold iblk
  refine congrArg (V m c main_v0) (funext fun a => Fin.ext ?_)
  blk_simp [index_0]
  match a with
  | ⟨0, _⟩ => exact Nat.zero_add _
  | ⟨1, _⟩ => rfl

/-- A lane of a point's positions is its row's position. -/
theorem tally_blk (t : Fin cfg0.N) (l : Fin 512) :
    tally (counts (wblk m c t) (sblk m c t)) (ix2 0 l) = place m c (colAt t l) := by
  rw [tally_apply, sblk_apply]
  refine laneTally_congr (fun k hk => ?_) _
  unfold laneW rowW
  have e : (Fin.ofNat 1024 k).val = k := Nat.mod_eq_of_lt (by omega)
  rw [dif_pos hk, wblk_apply m c t l (Fin.ofNat 1024 k) (by omega)]
  exact congrArg (fun j => argW m c (ix2 (colAt t l) j)) (Fin.ext e)

/-- The positions' array at the end. -/
theorem places_eq : (dats m 0 c).arrAt (2 : Fin 4) cfg0.N = (fun i : S1x16384.Idx => place m c (i 1)) := by
  refine (dats m 0 c).arrAt_eq_of_covers (2 : Fin 4) _ (by decide +kernel) fun t hf y => ?_
  obtain ⟨l, rfl⟩ : ∃ l : Fin 512, y = ix2 0 l := ⟨y 1, row_idx y⟩
  have e : ((win0_2.blk t).view.emb (ix2 (0 : Fin 1) l) : S1x16384.Idx) 1 = colAt t l := Fin.ext (by
    blk_simp [index_2]
    rfl)
  refine (tally_blk m c t l).trans ?_
  exact congrArg (place m c) e.symm

/-- The marks' array at the end. -/
theorem marks_eq : (dats m 0 c).arrAt (3 : Fin 4) cfg0.N
    = (fun i : S1000x16384.Idx => BitVec.setWidth 32 (IntOp.cmpi .eq (BitVec.ofNat 32 (i 0).val) (place m c (i 1)))) := by
  refine (dats m 0 c).arrAt_eq_of_covers (3 : Fin 4) _ (by decide +kernel) fun t hf y => ?_
  obtain ⟨k, l, rfl⟩ : ∃ (k : Fin 1000) (l : Fin 512), y = ix2 k l := ⟨y 0, y 1, eq_ix2 y⟩
  have e : ((win0_3.blk t).view.emb (ix2 k l) : S1000x16384.Idx) 1 = colAt t l := Fin.ext (by
    blk_simp [index_3]
    rfl)
  have e' : ((win0_3.blk t).view.emb (ix2 k l) : S1000x16384.Idx) 0 = k := Fin.ext (by
    blk_simp [index_3])
  refine (oneHot_apply _ k l).trans ?_
  rw [tally_blk]
  exact (congrArg₂ (fun (a : Fin 1000) (b : Fin 16384) => BitVec.setWidth 32 (IntOp.cmpi .eq (BitVec.ofNat 32 a.val) (place m c b))) e' e).symm

/-- The first result: every row's position. -/
theorem last_places (b : Fin 16384) :
    (Pipeline.afterTail₀ cfgs (dats m) 0 (V0 m) [hostOps1] c main_v3 : IVec S16384 32) (ix1 b) = place m c b := by
  have e : Pipeline.afterTail₀ cfgs (dats m) 0 (V0 m) [hostOps1] c main_v3
      = fun i => shapeCast S16384 (fun i : S1x16384.Idx => place m c (i 1)) shapeCasts_S1x16384_S16384 i := by
    unfold Pipeline.afterTail₀
    show StableHlo.after hostOps1 _ (Proc.devRef .tc main_v3) = _
    unfold hostOps1
    rw [after_pair, StableHlo.unary_result_ne (h := (by decide : main_v3 ≠ main_v4)), StableHlo.reshape_result]
    have ea := Pipeline.withArrays_arr spec0 (by decide) c (V0 m c) (fun w => (dats m 0 c).arrAt w cfg0.N) (2 : Fin 4)
    rw [places_eq] at ea
    exact congrArg (fun u : IVec S1x16384 32 => (fun i => shapeCast S16384 u shapeCasts_S1x16384_S16384 i : IVec S16384 32)) ea
  rw [e]
  exact shapeCast_apply _ _ _ (ix2 (0 : Fin 1) b) (by
    rw [Shape.rowMajor_val_one, Shape.rowMajor_val_two]
    show 0 * 16384 + b.val = b.val
    omega)

/-- The second result: one at every row's position, zero elsewhere. -/
theorem last_marks (b : Fin 16384) (k : Fin 1000) :
    (Pipeline.afterTail₀ cfgs (dats m) 0 (V0 m) [hostOps1] c main_v4 : IVec S16384x1000 32) (ix2 b k)
      = BitVec.setWidth 32 (IntOp.cmpi .eq (BitVec.ofNat 32 k.val) (place m c b)) := by
  have e : Pipeline.afterTail₀ cfgs (dats m) 0 (V0 m) [hostOps1] c main_v4
      = transpose S16384x1000 [1, 0]
          (fun i : S1000x16384.Idx => BitVec.setWidth 32 (IntOp.cmpi .eq (BitVec.ofNat 32 (i 0).val) (place m c (i 1))))
          transposes_S1000x16384_S16384x1000_1_0 := by
    unfold Pipeline.afterTail₀
    show StableHlo.after hostOps1 _ (Proc.devRef .tc main_v4) = _
    unfold hostOps1
    rw [after_pair, StableHlo.unary_result, StableHlo.reshape_result_ne (h := (by decide : main_v2_1 ≠ main_v3))]
    have ea := Pipeline.withArrays_arr spec0 (by decide) c (V0 m c) (fun w => (dats m 0 c).arrAt w cfg0.N) (3 : Fin 4)
    rw [marks_eq] at ea
    exact congrArg (fun u : IVec S1000x16384 32 => transpose S16384x1000 [1, 0] u transposes_S1000x16384_S16384x1000_1_0) ea
  rw [e]
  exact transpose_apply _ _ _ _ (ix2 k b) fun a => match a with
    | ⟨0, _⟩ => rfl
    | ⟨1, _⟩ => rfl

/-- The program ends with both results as said and its arguments as launched. -/
theorem values : θ_run defs (onTc (τ := τ) (main (F := F))) ⟨m, fun _ => 0, ρ⟩ (fun r => ∀ c : Dev nD,
      (∀ b : Fin 16384, (r.2.mem ((c.tc : Thread nD τ).loc main_v3) : IVec S16384 32) (ix1 b) = place m c b)
      ∧ (∀ (b : Fin 16384) (k : Fin 1000), (r.2.mem ((c.tc : Thread nD τ).loc main_v4) : IVec S16384x1000 32) (ix2 b k)
          = BitVec.setWidth 32 (IntOp.cmpi .eq (BitVec.ofNat 32 k.val) (place m c b)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    have rest := fun b hs hr => (h.1 c).2 b (Pipeline.mem_restRefs_of b hs hr)
    refine ⟨fun b => ?_, fun b k => ?_, (rest main_arg0 (by decide) (by decide)).trans (W_main_arg0 m (dats m) c),
      (rest main_arg1 (by decide) (by decide)).trans (W_main_arg1 m (dats m) c),
      (rest main_arg2 (by decide) (by decide)).trans (W_main_arg2 m (dats m) c)⟩
    · exact (congrFun (rest main_v3 (by decide) (by decide)) (ix1 b)).trans (last_places m c b)
    · exact (congrFun (rest main_v4 (by decide) (by decide)) (ix2 b k)).trans (last_marks m c b k))
    (run m ρ)

end Cert.KernelIdeal.Own

end
-- ==== Proof.Ref.Ssa.lean ====
module

public import Idealize.ShloMosaic.Lib.StableHlo.Run

@[expose] public section

noncomputable section

/-! A host program in which every operation writes a buffer of its own, numbered above everything it reads, is
    known by its equations: at the end each buffer holds its operation's value of the other buffers. -/

namespace Cert.Ssa

open Idealize.ShloMosaic Idealize.ShloMosaic.StableHlo Idealize.SL.Sem

variable {nD : ℕ} {τ : Topo} {sig : RefSig} {Val : EltTy → Type} {Λ : Labels}

/-- The number of a buffer. -/
abbrev num (r : Ref sig .tc) : ℕ := r.idx.val

/-- What a typed reference reads in a valuation. -/
abbrev rd {T : BufTy} (x : TRef sig T) (G : Valuation τ sig Val) : T.Contents Val :=
  x.ofBuf (G (Proc.devRef .tc x.ref))

/-- The program `p` is a line of operations that writes only buffers numbered in `[lo, hi)`, and the equations
    `E` hold of every final valuation that keeps what the line left below `hi`. -/
def Line (lo hi : ℕ) (p : Prog (TpuEff nD τ sig Val Λ .tc) PUnit) (E : Valuation τ sig Val → Prop) : Prop :=
  lo ≤ hi ∧ ∃ ops : List (HloOp τ sig Val), p = seq ops ∧ (ops.Forall fun op => op.bufs ⊆ tcRefs τ sig)
    ∧ (∀ op ∈ ops, op.fresh = ∅)
    ∧ (∀ (V : Valuation τ sig Val) (r : Ref sig .tc), num r < lo →
        after ops V (Proc.devRef .tc r) = V (Proc.devRef .tc r))
    ∧ ∀ V G : Valuation τ sig Val,
        (∀ r : Ref sig .tc, num r < hi → G (Proc.devRef .tc r) = after ops V (Proc.devRef .tc r)) → E G

/-- The line of one operation. -/
theorem line_seq_one (op : HloOp τ sig Val) :
    (hlo rfl op fun _ => .ret (⟨⟩ : PUnit)) = (seq [op] : Prog (TpuEff nD τ sig Val Λ .tc) PUnit) := by
  simp only [seq]; exact (bind_pure _).symm

/-- One operation that writes one buffer `y`. -/
theorem Line.one {lo : ℕ} {E : Valuation τ sig Val → Prop} (op : HloOp τ sig Val) (y : Ref sig .tc)
    (hb : op.bufs ⊆ tcRefs τ sig) (hf : op.fresh = ∅) (hle : lo ≤ num y)
    (hne : ∀ (V : Valuation τ sig Val) (r : Ref sig .tc), r ≠ y →
      op.result V (Proc.devRef .tc r) = V (Proc.devRef .tc r))
    (hE : ∀ V G : Valuation τ sig Val, (∀ r : Ref sig .tc, num r < num y → G (Proc.devRef .tc r) = V (Proc.devRef .tc r)) →
      G (Proc.devRef .tc y) = op.result V (Proc.devRef .tc y) → E G) :
    Line (nD := nD) (Λ := Λ) lo (num y + 1) (hlo rfl op fun _ => .ret ⟨⟩) E := by
  refine ⟨by omega, [op], line_seq_one op, by simpa using hb, by simpa using hf, fun V r hr => ?_, fun V G h => ?_⟩
  · exact hne V r (fun e => by subst e; omega)
  · exact hE V G (fun r hr => (h r (by omega)).trans (hne V r (fun e => by subst e; omega))) (h y (by omega))

/-- What two lines leave, one after the other. -/
theorem after_two (l l' : List (HloOp τ sig Val)) (V : Valuation τ sig Val) :
    after (l ++ l') V = after l' (after l V) := by
  induction l generalizing V with
  | nil => rfl
  | cons o l ih => exact ih _

/-- Nothing. -/
theorem Line.nil (n : ℕ) : Line (nD := nD) (τ := τ) (sig := sig) (Val := Val) (Λ := Λ) n n (pure ⟨⟩) fun _ => True :=
  ⟨le_rfl, [], rfl, List.forall_iff_forall_mem.2 fun _ h => (by cases h), fun _ h => (by cases h), fun _ _ _ => rfl, fun _ _ _ => trivial⟩

/-- One line after another: the equations of both. -/
theorem Line.bind {a b c : ℕ} {p q : Prog (TpuEff nD τ sig Val Λ .tc) PUnit} {E E' : Valuation τ sig Val → Prop}
    (hp : Line a b p E) (hq : Line b c q E') : Line a c (p >>= fun _ => q) fun G => E G ∧ E' G := by
  obtain ⟨hab, l, rfl, hl, fl, kl, el⟩ := hp
  obtain ⟨hbc, l', rfl, hl', fl', kl', el'⟩ := hq
  have happ := fun V => after_two l l' V
  refine ⟨hab.trans hbc, l ++ l', (seq_append l l').symm, ?_, ?_, ?_, ?_⟩
  · exact List.forall_iff_forall_mem.2 fun o h => (List.mem_append.1 h).elim (List.forall_iff_forall_mem.1 hl o)
      (List.forall_iff_forall_mem.1 hl' o)
  · exact fun o h => (List.mem_append.1 h).elim (fl o) (fl' o)
  · intro V r hr
    rw [happ, kl' _ r (by omega), kl _ r hr]
  · intro V G h
    refine ⟨el V G fun r hr => ?_, el' (after l V) G fun r hr => ?_⟩
    · rw [h r (by omega), happ, kl' _ r hr]
    · rw [h r hr, happ]

/-- Weaker equations. -/
theorem Line.mono {a b : ℕ} {p : Prog (TpuEff nD τ sig Val Λ .tc) PUnit} {E E' : Valuation τ sig Val → Prop}
    (hp : Line a b p E) (h : ∀ G, E G → E' G) : Line a b p E' := by
  obtain ⟨hab, l, e, hl, fl, kl, el⟩ := hp
  exact ⟨hab, l, e, hl, fl, kl, fun V G hG => h G (el V G hG)⟩

variable {Tx Ta Tb Tc Ty : BufTy}

/-- `y` is a constant. -/
theorem Line.nullary {lo : ℕ} (y : TRef sig Ty) (v : Ty.Contents Val) (h : lo ≤ num y.ref) :
    Line (nD := nD) (τ := τ) (Λ := Λ) lo (num y.ref + 1) (hlo rfl (TRef.nullary y v) fun _ => .ret ⟨⟩)
      fun G => rd y G = v := by
  obtain ⟨y, rfl, h1, h2⟩ := y
  refine Line.one _ y (nullary_bufs_sub ..) rfl h (fun V r hr => nullary_result_ne (F := V) (h := hr) ..) fun V G hG hy => ?_
  exact hy.trans (nullary_result ..)

/-- `y` is a function of `x`. -/
theorem Line.unary {lo : ℕ} (x : TRef sig Tx) (y : TRef sig Ty) (f : Tx.Contents Val → Ty.Contents Val)
    (h : lo ≤ num y.ref) (hx : num x.ref < num y.ref) :
    Line (nD := nD) (τ := τ) (Λ := Λ) lo (num y.ref + 1) (hlo rfl (TRef.unary x y f) fun _ => .ret ⟨⟩)
      fun G => rd y G = f (rd x G) := by
  obtain ⟨y, rfl, h1, h2⟩ := y
  obtain ⟨x, rfl, h3, h4⟩ := x
  refine Line.one _ y (unary_bufs_sub ..) rfl h (fun V r hr => unary_result_ne (F := V) (h := hr) ..) fun V G hG hy => ?_
  exact hy.trans ((unary_result ..).trans (congrArg f (hG x hx).symm))

/-- `y` is a function of `a` and `b`. -/
theorem Line.binary {lo : ℕ} (a : TRef sig Ta) (b : TRef sig Tb) (y : TRef sig Ty)
    (f : Ta.Contents Val → Tb.Contents Val → Ty.Contents Val)
    (h : lo ≤ num y.ref) (ha : num a.ref < num y.ref) (hb : num b.ref < num y.ref) :
    Line (nD := nD) (τ := τ) (Λ := Λ) lo (num y.ref + 1) (hlo rfl (TRef.binary a b y f) fun _ => .ret ⟨⟩)
      fun G => rd y G = f (rd a G) (rd b G) := by
  obtain ⟨y, rfl, h1, h2⟩ := y
  obtain ⟨a, rfl, h3, h4⟩ := a
  obtain ⟨b, rfl, h5, h6⟩ := b
  refine Line.one _ y (binary_bufs_sub ..) rfl h (fun V r hr => binary_result_ne (F := V) (h := hr) ..) fun V G hG hy => ?_
  exact hy.trans ((binary_result ..).trans (congrArg₂ f (hG a ha).symm (hG b hb).symm))

/-- `y` is a function of `c`, `a` and `b`. -/
theorem Line.ternary {lo : ℕ} (c : TRef sig Tc) (a : TRef sig Ta) (b : TRef sig Tb) (y : TRef sig Ty)
    (f : Tc.Contents Val → Ta.Contents Val → Tb.Contents Val → Ty.Contents Val)
    (h : lo ≤ num y.ref) (hc : num c.ref < num y.ref) (ha : num a.ref < num y.ref) (hb : num b.ref < num y.ref) :
    Line (nD := nD) (τ := τ) (Λ := Λ) lo (num y.ref + 1) (hlo rfl (TRef.ternary c a b y f) fun _ => .ret ⟨⟩)
      fun G => rd y G = f (rd c G) (rd a G) (rd b G) := by
  obtain ⟨y, rfl, h1, h2⟩ := y
  obtain ⟨a, rfl, h3, h4⟩ := a
  obtain ⟨b, rfl, h5, h6⟩ := b
  obtain ⟨c, rfl, h7, h8⟩ := c
  refine Line.one _ y (ternary_bufs_sub ..) rfl h (fun V r hr => ternary_result_ne (F := V) (h := hr) ..) fun V G hG hy => ?_
  refine hy.trans ((ternary_result ..).trans ?_)
  exact congr (congrArg₂ f (hG c hc).symm (hG a ha).symm) (hG b hb).symm

/-- `y` is `x` under another shape. -/
theorem Line.reshape {lo : ℕ} (x : TRef sig Tx) (y : TRef sig Ty) (he : Tx.elt = Ty.elt)
    (hn : Tx.shape.ShapeCasts Ty.shape) (h : lo ≤ num y.ref) (hx : num x.ref < num y.ref) :
    Line (nD := nD) (τ := τ) (Λ := Λ) lo (num y.ref + 1)
      (hlo rfl (TRef.reshape (Val := Val) x y he hn) fun _ => .ret ⟨⟩)
      fun G => rd y G = fun i => he ▸ shapeCast Ty.shape (rd x G) hn i := by
  obtain ⟨y, rfl, h1, h2⟩ := y
  obtain ⟨x, rfl, h3, h4⟩ := x
  refine Line.one _ y (reshape_bufs_sub ..) rfl h (fun V r hr => reshape_result_ne (F := V) (h := hr) ..) fun V G hG hy => ?_
  refine hy.trans ((reshape_result ..).trans ?_)
  exact congrArg (fun (u : x.ty.Contents Val) => (fun i => he ▸ shapeCast y.ty.shape u hn i : y.ty.Contents Val)) (hG x hx).symm

/-! The same of operations named by their buffers. -/

/-- What a buffer reads in a valuation. -/
abbrev held (x : Ref sig .tc) (G : Valuation τ sig Val) : x.ty.Contents Val := G (Proc.devRef .tc x)

/-- `y` is a constant. -/
theorem Line.const {lo : ℕ} (y : Ref sig .tc) (v : y.ty.Contents Val)
    (hy : y.space ≠ .host ∧ (Proc.devRef (τ := τ) .tc y).isScoped = false) (h : lo ≤ num y) :
    Line (nD := nD) (τ := τ) (Λ := Λ) lo (num y + 1) (hlo rfl (StableHlo.nullary y v hy) fun _ => .ret ⟨⟩)
      fun G => held y G = v :=
  Line.one _ y (nullary_bufs_sub ..) rfl h (fun V r hr => nullary_result_ne (F := V) (h := hr) ..)
    fun V G hG e => e.trans (nullary_result ..)

/-- `y` is a function of `x`. -/
theorem Line.map {lo : ℕ} (x y : Ref sig .tc) (f : x.ty.Contents Val → y.ty.Contents Val)
    (px : x.space ≠ .host ∧ (Proc.devRef (τ := τ) .tc x).isScoped = false)
    (py : y.space ≠ .host ∧ (Proc.devRef (τ := τ) .tc y).isScoped = false) (h : lo ≤ num y) (hx : num x < num y) :
    Line (nD := nD) (τ := τ) (Λ := Λ) lo (num y + 1) (hlo rfl (StableHlo.unary x y f px py) fun _ => .ret ⟨⟩)
      fun G => held y G = f (held x G) :=
  Line.one _ y (unary_bufs_sub ..) rfl h (fun V r hr => unary_result_ne (F := V) (h := hr) ..)
    fun V G hG e => e.trans ((unary_result ..).trans (congrArg f (hG x hx).symm))

/-- `y` is a function of `a` and `b`. -/
theorem Line.map₂ {lo : ℕ} (a b y : Ref sig .tc) (f : a.ty.Contents Val → b.ty.Contents Val → y.ty.Contents Val)
    (pa : a.space ≠ .host ∧ (Proc.devRef (τ := τ) .tc a).isScoped = false)
    (pb : b.space ≠ .host ∧ (Proc.devRef (τ := τ) .tc b).isScoped = false)
    (py : y.space ≠ .host ∧ (Proc.devRef (τ := τ) .tc y).isScoped = false) (h : lo ≤ num y)
    (ha : num a < num y) (hb : num b < num y) :
    Line (nD := nD) (τ := τ) (Λ := Λ) lo (num y + 1) (hlo rfl (StableHlo.binary a b y f pa pb py) fun _ => .ret ⟨⟩)
      fun G => held y G = f (held a G) (held b G) :=
  Line.one _ y (binary_bufs_sub ..) rfl h (fun V r hr => binary_result_ne (F := V) (h := hr) ..)
    fun V G hG e => e.trans ((binary_result ..).trans (congrArg₂ f (hG a ha).symm (hG b hb).symm))

/-- `y` is a function of `c`, `a` and `b`. -/
theorem Line.map₃ {lo : ℕ} (c a b y : Ref sig .tc)
    (f : c.ty.Contents Val → a.ty.Contents Val → b.ty.Contents Val → y.ty.Contents Val)
    (pc : c.space ≠ .host ∧ (Proc.devRef (τ := τ) .tc c).isScoped = false)
    (pa : a.space ≠ .host ∧ (Proc.devRef (τ := τ) .tc a).isScoped = false)
    (pb : b.space ≠ .host ∧ (Proc.devRef (τ := τ) .tc b).isScoped = false)
    (py : y.space ≠ .host ∧ (Proc.devRef (τ := τ) .tc y).isScoped = false) (h : lo ≤ num y)
    (hc : num c < num y) (ha : num a < num y) (hb : num b < num y) :
    Line (nD := nD) (τ := τ) (Λ := Λ) lo (num y + 1) (hlo rfl (StableHlo.ternary c a b y f pc pa pb py) fun _ => .ret ⟨⟩)
      fun G => held y G = f (held c G) (held a G) (held b G) :=
  Line.one _ y (ternary_bufs_sub ..) rfl h (fun V r hr => ternary_result_ne (F := V) (h := hr) ..)
    fun V G hG e => e.trans ((ternary_result ..).trans (congr (congrArg₂ f (hG c hc).symm (hG a ha).symm) (hG b hb).symm))

/-- `y` is `x` under another shape. -/
theorem Line.shape {lo : ℕ} (x y : Ref sig .tc) (he : x.ty.elt = y.ty.elt) (hn : x.ty.shape.ShapeCasts y.ty.shape)
    (px : x.space ≠ .host ∧ (Proc.devRef (τ := τ) .tc x).isScoped = false)
    (py : y.space ≠ .host ∧ (Proc.devRef (τ := τ) .tc y).isScoped = false) (h : lo ≤ num y) (hx : num x < num y) :
    Line (nD := nD) (τ := τ) (Λ := Λ) lo (num y + 1)
      (hlo rfl (StableHlo.reshape (Val := Val) x y he hn px py) fun _ => .ret ⟨⟩)
      fun G => held y G = fun i => he ▸ shapeCast y.ty.shape (held x G) hn i :=
  Line.one _ y (reshape_bufs_sub ..) rfl h (fun V r hr => reshape_result_ne (F := V) (h := hr) ..)
    fun V G hG e => e.trans ((reshape_result ..).trans
      (congrArg (fun (u : x.ty.Contents Val) => (fun i => he ▸ shapeCast y.ty.shape u hn i : y.ty.Contents Val)) (hG x hx).symm))

end Cert.Ssa

end
-- ==== Proof.Ref.Cipher.lean ====
module

public import proofs.«01_k».proof.Proof.Gen.ReferenceIdeal
public import proofs.«01_k».proof.Proof.Ref.Ssa
public import proofs.«01_k».proof.Proof.K.Spec

@[expose] public section

set_option maxRecDepth 16384

noncomputable section

/-! The cipher the reference calls, twice: its statements read as rounds. -/

namespace Cert.ReferenceIdeal.Own

open Idealize.ShloMosaic Idealize.ShloMosaic.StableHlo Idealize.ShloMosaic.TcCoe
open Cert.ReferenceIdeal Cert.ReferenceIdeal.Gen Cert.Ssa Cert.Sample

variable {F : FTy → Type} [FloatOps F]

section Rounds

variable {S : Shape} {R : Prop}

/-- The host's shift left by a literal amount below 32 is the vector unit's. -/
theorem shli_host (x : IVec S 32) (r : BitVec 32) (h : S_.BroadcastsInDim S ![]) (hr : r.toNat < 32) :
    Host.shli x (broadcastInDim S ![] h (constantI S_ 32 r)) = shli x (broadcast S r) := by
  funext i
  show IntOp.shli .host (x i) r = IntOp.shli .vector (x i) r
  unfold IntOp.shli
  rw [if_pos hr, if_pos hr]

/-- The host's shift right by a literal amount below 32 is the vector unit's. -/
theorem shrui_host (x : IVec S 32) (r : BitVec 32) (h : S_.BroadcastsInDim S ![]) (hr : r.toNat < 32) :
    Host.shrui x (broadcastInDim S ![] h (constantI S_ 32 r)) = shrui x (broadcast S r) := by
  funext i
  show IntOp.shrui .host (x i) r = IntOp.shrui .vector (x i) r
  unfold IntOp.shrui
  rw [if_pos hr, if_pos hr]

/-- The nine statements of a round, as the round. -/
theorem take_round {a b s d e d' e' o x : IVec S 32} {c c' : IVec S_ 32} {r r' : BitVec 32}
    {hb hb' : S_.BroadcastsInDim S ![]} {P : IVec S 32 × IVec S 32}
    (h : s = addi a b ∧ c = constantI S_ 32 r ∧ d = broadcastInDim S ![] hb c ∧ e = Host.shli b d
      ∧ c' = constantI S_ 32 r' ∧ d' = broadcastInDim S ![] hb' c' ∧ e' = Host.shrui b d' ∧ o = ori e e'
      ∧ x = xori s o ∧ R)
    (hP : (a, b) = P) (hr : r.toNat < 32 := by decide) (hr' : r'.toNat < 32 := by decide) :
    (s, x) = rnd r r' P ∧ R := by
  obtain ⟨rfl, rfl, rfl, rfl, rfl, rfl, rfl, rfl, rfl, hR⟩ := h
  subst hP
  rw [shli_host b r hb hr, shrui_host b r' hb' hr']
  exact ⟨rfl, hR⟩

/-- The seven statements that add two broadcast key words and a counter. -/
theorem take_inject {a b k k' x b1 d y : IVec S 32} {w w' c : IVec S_ 32} {n : BitVec 32}
    {h1 h2 h3 : S_.BroadcastsInDim S ![]} {P : IVec S 32 × IVec S 32} {K K' : IVec S 32}
    (h : k = broadcastInDim S ![] h1 w ∧ x = addi a k ∧ k' = broadcastInDim S ![] h2 w' ∧ b1 = addi b k'
      ∧ c = constantI S_ 32 n ∧ d = broadcastInDim S ![] h3 c ∧ y = addi b1 d ∧ R)
    (hP : (a, b) = P) (hK : broadcastInDim S ![] h1 w = K) (hK' : broadcastInDim S ![] h2 w' = K') :
    (x, y) = inject K K' n P ∧ R := by
  obtain ⟨rfl, rfl, rfl, rfl, rfl, rfl, rfl, hR⟩ := h
  subst hP hK hK'
  exact ⟨rfl, hR⟩

/-- The five statements that add two key words and a counter. -/
theorem take_inject' {a b x b1 d y w w' : IVec S 32} {c : IVec S_ 32} {n : BitVec 32}
    {h3 : S_.BroadcastsInDim S ![]} {P : IVec S 32 × IVec S 32} {K K' : IVec S 32}
    (h : x = addi a w ∧ b1 = addi b w'
      ∧ c = constantI S_ 32 n ∧ d = broadcastInDim S ![] h3 c ∧ y = addi b1 d ∧ R)
    (hP : (a, b) = P) (hK : w = K) (hK' : w' = K') :
    (x, y) = inject K K' n P ∧ R := by
  obtain ⟨rfl, rfl, rfl, rfl, rfl, hR⟩ := h
  subst hP hK hK'
  exact ⟨rfl, hR⟩

/-- The first seven statements under scalar key words: the third key word, and the words plus the key. -/
theorem take_head {w w' v v1 c : IVec S_ 32} {a b k k' x y : IVec S 32} {h1 h2 h3 : S_.BroadcastsInDim S ![]}
    (h : v = xori w w' ∧ c = constantI S_ 32 466688986#32 ∧ v1 = xori v c ∧ k = broadcastInDim S ![] h1 w
      ∧ x = addi a k ∧ k' = broadcastInDim S ![] h2 w' ∧ y = addi b k' ∧ R) :
    broadcastInDim S ![] h3 v1 = key2 (broadcastInDim S ![] h1 w) (broadcastInDim S ![] h2 w')
      ∧ (x, y) = (addi a (broadcastInDim S ![] h1 w), addi b (broadcastInDim S ![] h2 w')) ∧ R := by
  obtain ⟨rfl, rfl, rfl, rfl, rfl, rfl, rfl, hR⟩ := h
  exact ⟨rfl, rfl, hR⟩

/-- The first eight statements under scalar words: the third key word, and the words plus the key. -/
theorem take_head' {w w' c : IVec S_ 32} {k k' v v0 v1 a b x y : IVec S 32} {h1 h2 h3 : S_.BroadcastsInDim S ![]}
    (h : v = xori k k' ∧ c = constantI S_ 32 466688986#32 ∧ v0 = broadcastInDim S ![] h3 c ∧ v1 = xori v v0
      ∧ a = broadcastInDim S ![] h1 w ∧ x = addi a k ∧ b = broadcastInDim S ![] h2 w' ∧ y = addi b k' ∧ R) :
    v1 = key2 k k'
      ∧ (x, y) = (addi (broadcastInDim S ![] h1 w) k, addi (broadcastInDim S ![] h2 w') k') ∧ R := by
  obtain ⟨rfl, rfl, rfl, rfl, rfl, rfl, rfl, rfl, hR⟩ := h
  exact ⟨rfl, rfl, hR⟩

end Rounds

set_option maxHeartbeats 4000000 in
/-- The first call of the cipher leaves the cipher of its words. -/
theorem cipher_fold {lo : ℕ} (hlo : lo ≤ num main_call0.call0.v0.ref) : Line lo (num main_call0.call0.v175.ref + 1)
    (fn_threefry2x32.body (F := F) main_call0.v8 main_call0.v10 main_call0.v11 main_call0.v12 main_call0.call0)
    fun G => (rd main_call0.call0.v171 G, rd main_call0.call0.v175 G) = threefry (broadcastInDim S16384x1 ![] bcast_S_S16384x1 (rd main_call0.v8 G))
      (broadcastInDim S16384x1 ![] bcast_S_S16384x1 (rd main_call0.v10 G)) (rd main_call0.v11 G) (rd main_call0.v12 G) := by
  apply Line.mono
  case hp =>
    unfold fn_threefry2x32.body fn_threefry2x32.body_part0 fn_threefry2x32.body_part1 fn_threefry2x32.body_part2
      fn_threefry2x32.body_part3
    repeat' first
      | with_reducible apply Line.bind
      | with_reducible apply Line.binary
      | with_reducible apply Line.unary
      | with_reducible apply Line.nullary
      | with_reducible apply Line.nil
      | exact hlo
      | exact Nat.le_of_ble_eq_true rfl
  case h =>
    intro G h
    simp only [and_assoc] at h
    obtain ⟨k2, p0, h⟩ := take_head h
    obtain ⟨p1, h⟩ := take_round h p0
    obtain ⟨p2, h⟩ := take_round h p1
    obtain ⟨p3, h⟩ := take_round h p2
    obtain ⟨p4, h⟩ := take_round h p3
    obtain ⟨p5, h⟩ := take_inject h p4 rfl k2
    obtain ⟨p6, h⟩ := take_round h p5
    obtain ⟨p7, h⟩ := take_round h p6
    obtain ⟨p8, h⟩ := take_round h p7
    obtain ⟨p9, h⟩ := take_round h p8
    obtain ⟨p10, h⟩ := take_inject h p9 k2 rfl
    obtain ⟨p11, h⟩ := take_round h p10
    obtain ⟨p12, h⟩ := take_round h p11
    obtain ⟨p13, h⟩ := take_round h p12
    obtain ⟨p14, h⟩ := take_round h p13
    obtain ⟨p15, h⟩ := take_inject h p14 rfl rfl
    obtain ⟨p16, h⟩ := take_round h p15
    obtain ⟨p17, h⟩ := take_round h p16
    obtain ⟨p18, h⟩ := take_round h p17
    obtain ⟨p19, h⟩ := take_round h p18
    obtain ⟨p20, h⟩ := take_inject h p19 rfl k2
    obtain ⟨p21, h⟩ := take_round h p20
    obtain ⟨p22, h⟩ := take_round h p21
    obtain ⟨p23, h⟩ := take_round h p22
    obtain ⟨p24, h⟩ := take_round h p23
    obtain ⟨p25, h⟩ := take_inject h p24 k2 rfl
    exact p25

set_option maxHeartbeats 4000000 in
/-- The second call of the cipher leaves the cipher of its words. -/
theorem cipher_draw {lo : ℕ} (hlo : lo ≤ num main_call1.call0.v0.ref) : Line lo (num main_call1.call0.v166.ref + 1)
    (fn_threefry2x32_0.body (F := F) main_call1.v3 main_call1.v5 main_call1.c main_call1.c_0 main_call1.call0)
    fun G => (rd main_call1.call0.v163 G, rd main_call1.call0.v166 G) = threefry (rd main_call1.v3 G) (rd main_call1.v5 G)
      (broadcastInDim S16384 ![] bcast_S_S16384 (rd main_call1.c G))
      (broadcastInDim S16384 ![] bcast_S_S16384 (rd main_call1.c_0 G)) := by
  apply Line.mono
  case hp =>
    unfold fn_threefry2x32_0.body fn_threefry2x32_0.body_part0 fn_threefry2x32_0.body_part1 fn_threefry2x32_0.body_part2
      fn_threefry2x32_0.body_part3
    repeat' first
      | with_reducible apply Line.bind
      | with_reducible apply Line.binary
      | with_reducible apply Line.unary
      | with_reducible apply Line.nullary
      | with_reducible apply Line.nil
      | exact hlo
      | exact Nat.le_of_ble_eq_true rfl
  case h =>
    intro G h
    simp only [and_assoc] at h
    obtain ⟨k2, p0, h⟩ := take_head' h
    obtain ⟨p1, h⟩ := take_round h p0
    obtain ⟨p2, h⟩ := take_round h p1
    obtain ⟨p3, h⟩ := take_round h p2
    obtain ⟨p4, h⟩ := take_round h p3
    obtain ⟨p5, h⟩ := take_inject' h p4 rfl k2
    obtain ⟨p6, h⟩ := take_round h p5
    obtain ⟨p7, h⟩ := take_round h p6
    obtain ⟨p8, h⟩ := take_round h p7
    obtain ⟨p9, h⟩ := take_round h p8
    obtain ⟨p10, h⟩ := take_inject' h p9 k2 rfl
    obtain ⟨p11, h⟩ := take_round h p10
    obtain ⟨p12, h⟩ := take_round h p11
    obtain ⟨p13, h⟩ := take_round h p12
    obtain ⟨p14, h⟩ := take_round h p13
    obtain ⟨p15, h⟩ := take_inject' h p14 rfl rfl
    obtain ⟨p16, h⟩ := take_round h p15
    obtain ⟨p17, h⟩ := take_round h p16
    obtain ⟨p18, h⟩ := take_round h p17
    obtain ⟨p19, h⟩ := take_round h p18
    obtain ⟨p20, h⟩ := take_inject' h p19 rfl k2
    obtain ⟨p21, h⟩ := take_round h p20
    obtain ⟨p22, h⟩ := take_round h p21
    obtain ⟨p23, h⟩ := take_round h p22
    obtain ⟨p24, h⟩ := take_round h p23
    obtain ⟨p25, h⟩ := take_inject' h p24 k2 rfl
    exact p25

end Cert.ReferenceIdeal.Own

end
-- ==== Proof.Ref.Drawn.lean ====
module

public import proofs.«01_k».proof.Proof.K.Lane
public import Idealize.ShloMosaic.Lib.IdealHost
public import Mathlib.Data.Nat.Count
public import Mathlib.Data.EReal.Operations

@[expose] public section

noncomputable section

/-! The number drawn from a seed, over the extended reals, is not negative. -/

namespace Cert.Sample

open Idealize.ShloMosaic

/-- A pattern with the exponent of one and any fraction denotes a number that is at least one. -/
theorem one_le_mantissa (y : BitVec 32) : (1 : EReal) ≤ Ideal.ofBits .f32 ((y >>> 9) ||| 1065353216#32) := by
  set b : BitVec 32 := (y >>> 9) ||| 1065353216#32 with hb
  have hs : b.extractLsb' 31 1 = 0#1 := by
    ext i hi
    have : i = 0 := by omega
    subst this
    simp [hb]
  have he : b.extractLsb' 23 8 = 127#8 := by
    ext i hi
    have h : y.getLsbD (9 + (23 + i)) = false := BitVec.getLsbD_of_ge _ _ (by omega)
    simp only [hb, BitVec.getElem_extractLsb', BitVec.getLsbD_or, BitVec.getLsbD_ushiftRight, h, Bool.false_or]
    clear hs h hb b
    interval_cases i <;> (revert hi; decide)
  show (1 : EReal) ≤ Ideal.ieee 8 23 b
  unfold Ideal.ieee
  simp only [Nat.reduceAdd, hs, he]
  rw [if_neg (by decide), if_neg (by decide)]
  rw [← EReal.coe_one, EReal.coe_le_coe_iff]
  rw [if_neg (by decide)]
  push_cast
  have h2 : ((2 : ℝ) ^ ((((127#8 : BitVec 8).toNat : ℕ) : Int) - (2 ^ (8 - 1) - 1) - 23)) = (2 ^ 23)⁻¹ := by
    rw [show ((((127#8 : BitVec 8).toNat : ℕ) : Int) - (2 ^ (8 - 1) - 1) - 23) = -23 from rfl]
    norm_num
  norm_num at h2 ⊢
  have := Nat.cast_nonneg (α := ℝ) (b.extractLsb' 0 23).toNat
  nlinarith

/-- Twenty-three random bits under the exponent of one, less one: not negative. -/
theorem mantissa_nonneg (b : BitVec 32) :
    0 ≤ FloatOps.subf (F := Ideal) (FloatOps.ofBits .f32 (IntOp.ori (IntOp.shrui .vector b 9#32) 1065353216#32))
      (FloatOps.ofBits .f32 0x3F800000#32) := by
  have h : IntOp.ori (IntOp.shrui .vector b 9#32) 1065353216#32 = (b >>> 9) ||| 1065353216#32 := rfl
  rw [h, Ideal.ofBits_def, Ideal.ofBits_def, Ideal.subf_def, Ideal.ofBits_one_f32]
  exact (EReal.sub_nonneg (Or.inr (EReal.coe_ne_top 1)) (Or.inr (EReal.coe_ne_bot 1))).2 ((EReal.coe_one.le).trans (one_le_mantissa b))

/-- A draw, spelled on words. -/
theorem draw_eq {F : FTy → Type} [FloatOps F] (x : BitVec 32) :
    draw (F := F) x = FloatOps.subf
      (FloatOps.ofBits .f32 (IntOp.ori (IntOp.shrui .vector (bits (s := ⟨0, ![]⟩) (fun _ => x) (fun a => a.elim0)) 9#32) 1065353216#32))
      (FloatOps.ofBits .f32 0x3F800000#32) := rfl

/-- The number drawn from a seed is not negative. -/
theorem draw_nonneg (x : BitVec 32) : 0 ≤ draw (F := Ideal) x := by
  rw [draw_eq]
  exact mantissa_nonneg _

end Cert.Sample

end
-- ==== Proof.Ref.Cells.lean ====
module

public import proofs.«01_k».proof.Proof.Ref.Cipher
public import proofs.«01_k».proof.Proof.Ref.Drawn
public import Idealize.ShloMosaic.Lib.IdealHost
public import Idealize.ShloMosaic.Lib.Pipeline.Value
public import Idealize.ShloMosaic.Lib.ReduceAll
public import Idealize.ShloMosaic.Lib.Routing.OpsSet
public import Idealize.ShloMosaic.Lib.Routing.OpsPair

@[expose] public section

set_option maxRecDepth 16384

noncomputable section

/-! The functions the reference calls, one row at a time. -/

namespace Cert.ReferenceIdeal.Own

open Idealize.ShloMosaic hiding ix0 ix1 ix2
open Idealize.ShloMosaic.ValueIdx Idealize.ShloMosaic.Routing
open Cert.ReferenceIdeal Cert.ReferenceIdeal.Gen Cert.Sample

variable {F : FTy → Type} [FloatOps F] {α : Type}

/-- The cipher of one pair of words under one key. -/
def cipher1 (k0 k1 x0 x1 : BitVec 32) : BitVec 32 × BitVec 32 :=
  let r := threefry (s := ⟨0, ![]⟩) (fun _ => k0) (fun _ => k1) (fun _ => x0) (fun _ => x1)
  (r.1 (fun a => a.elim0), r.2 (fun a => a.elim0))

theorem threefry_fst {s : Shape} (k0 k1 x0 x1 : IVec s 32) (i : s.Idx) :
    (threefry k0 k1 x0 x1).1 i = (cipher1 (k0 i) (k1 i) (x0 i) (x1 i)).1 := rfl

theorem threefry_snd {s : Shape} (k0 k1 x0 x1 : IVec s 32) (i : s.Idx) :
    (threefry k0 k1 x0 x1).2 i = (cipher1 (k0 i) (k1 i) (x0 i) (x1 i)).2 := rfl

/-- The random word of a seed: the cipher of nothing under the seed's own key. -/
def word (x : BitVec 32) : BitVec 32 :=
  let k := cipher1 0#32 0#32 0#32 x
  let b := cipher1 k.1 k.2 0#32 0#32
  IntOp.xori b.1 b.2

theorem bits_apply {s : Shape} (x : IVec s 32) (i : s.Idx) : bits x i = word (x i) := by
  unfold bits word
  show IntOp.xori ((threefry _ _ _ _).1 i) ((threefry _ _ _ _).2 i) = _
  rw [threefry_fst, threefry_snd, threefry_fst, threefry_snd]
  rfl

/-- A row of a column made of a vector. -/
theorem col_at (x : S16384.Idx → α) (p : Fin 16384) (z : Fin 1) :
    broadcastInDim S16384x1 ![0] bcast_S16384_S16384x1_0 x (ix2 p z) = x (ix1 p) :=
  broadcastInDim_apply _ _ _ _ _ fun a => match a with
    | ⟨0, _⟩ => (if_neg (show ¬ (16384 : ℕ) = 1 by decide)).symm

/-- The left column of two. -/
theorem left_at (x y : S16384x1.Idx → α) (p : Fin 16384) :
    concatenate S16384x2 1 [⟨S16384x1, x⟩, ⟨S16384x1, y⟩] concatenates_S16384x1_S16384x1_S16384x2_d1 (ix2 p (0 : Fin 2))
      = x (ix2 p (0 : Fin 1)) :=
  concatenate_pair_apply_left (t := S16384x2) (s₁ := S16384x1) (s₂ := S16384x1) 1 x y _ (ix2 p (0 : Fin 2)) rfl (ix2 p (0 : Fin 1)) fun b => match b with
    | ⟨0, _⟩ => rfl
    | ⟨1, _⟩ => rfl

/-- The right column of two. -/
theorem right_at (x y : S16384x1.Idx → α) (p : Fin 16384) :
    concatenate S16384x2 1 [⟨S16384x1, x⟩, ⟨S16384x1, y⟩] concatenates_S16384x1_S16384x1_S16384x2_d1 (ix2 p (1 : Fin 2))
      = y (ix2 p (0 : Fin 1)) :=
  concatenate_pair_apply_right (t := S16384x2) (s₁ := S16384x1) (s₂ := S16384x1) 1 x y _ (ix2 p (1 : Fin 2)) rfl rfl (ix2 p (0 : Fin 1))
    (fun b => match b with
      | ⟨0, _⟩ => fun _ => rfl
      | ⟨1, _⟩ => fun h => (h rfl).elim) rfl

/-- The first column cut out. -/
theorem cut0_at (x : S16384x2.Idx → α) (p : Fin 16384) :
    extractStridedSlice S16384x1 ![0, 0] x slices_S16384x2_S16384x1_0_0 (ix2 p (0 : Fin 1)) = x (ix2 p (0 : Fin 2)) :=
  extractStridedSlice_apply _ _ _ _ _ fun a => match a with
    | ⟨0, _⟩ => (Nat.zero_add _).symm
    | ⟨1, _⟩ => rfl

/-- The second column cut out. -/
theorem cut1_at (x : S16384x2.Idx → α) (p : Fin 16384) :
    extractStridedSlice S16384x1 ![0, 1] x slices_S16384x2_S16384x1_0_1 (ix2 p (0 : Fin 1)) = x (ix2 p (1 : Fin 2)) :=
  extractStridedSlice_apply _ _ _ _ _ fun a => match a with
    | ⟨0, _⟩ => (Nat.zero_add _).symm
    | ⟨1, _⟩ => rfl

/-- A column as a vector. -/
theorem flat_at (x : S16384x1.Idx → α) (p : Fin 16384) :
    shapeCast S16384 x shapeCasts_S16384x1_S16384 (ix1 p) = x (ix2 p (0 : Fin 1)) :=
  shapeCast_apply _ _ _ _ (by
    rw [Shape.rowMajor_val_one, Shape.rowMajor_val_two]
    show p.val * 1 + 0 = p.val
    omega)

/-- One entry of a pair, as a scalar. -/
theorem entry0_at (x : S2.Idx → α) :
    shapeCast S_ (extractStridedSlice S1 ![0] x slices_S2_S1_0) shapeCasts_S1_S_ ix0 = x (ix1 (0 : Fin 2)) :=
  (shapeCast_apply _ _ _ (ix1 (0 : Fin 1)) rfl).trans (extractStridedSlice_apply _ _ _ _ _ fun a => match a with
    | ⟨0, _⟩ => rfl)

/-- The other entry of a pair, as a scalar. -/
theorem entry1_at (x : S2.Idx → α) :
    shapeCast S_ (extractStridedSlice S1 ![1] x slices_S2_S1_1) shapeCasts_S1_S_ ix0 = x (ix1 (1 : Fin 2)) :=
  (shapeCast_apply _ _ _ (ix1 (0 : Fin 1)) rfl).trans (extractStridedSlice_apply _ _ _ _ _ fun a => match a with
    | ⟨0, _⟩ => rfl)

/-- A word shifted right by its width is nothing. -/
theorem shrui_all (x : BitVec 32) : IntOp.shrui .host x 32#32 = 0#32 := rfl

/-- The statements of the key of each seed: the cipher of the seed under the given key. -/
theorem fold_value {c v0 v1 v2 c0 v3 v4 v5 v6 v7 v8 v9 v10 v11 v12 a b v14 key x}
    (h : c = constantI S_ 32 32#32 ∧ v0 = broadcastInDim S16384 ![] bcast_S_S16384 c ∧ v1 = Host.shrui x v0
      ∧ v2 = broadcastInDim S16384x1 ![0] bcast_S16384_S16384x1_0 v1 ∧ c0 = constantI S_ 32 4294967295#32
      ∧ v3 = broadcastInDim S16384 ![] bcast_S_S16384 c0 ∧ v4 = andi x v3
      ∧ v5 = broadcastInDim S16384x1 ![0] bcast_S16384_S16384x1_0 v4
      ∧ v6 = concatenate S16384x2 1 [⟨S16384x1, v2⟩, ⟨S16384x1, v5⟩] concatenates_S16384x1_S16384x1_S16384x2_d1
      ∧ v7 = extractStridedSlice S1 ![0] key slices_S2_S1_0 ∧ v8 = (fun i => shapeCast S_ v7 shapeCasts_S1_S_ i)
      ∧ v9 = extractStridedSlice S1 ![1] key slices_S2_S1_1 ∧ v10 = (fun i => shapeCast S_ v9 shapeCasts_S1_S_ i)
      ∧ v11 = extractStridedSlice S16384x1 ![0, 0] v6 slices_S16384x2_S16384x1_0_0
      ∧ v12 = extractStridedSlice S16384x1 ![0, 1] v6 slices_S16384x2_S16384x1_0_1
      ∧ (a, b) = threefry (broadcastInDim S16384x1 ![] bcast_S_S16384x1 v8) (broadcastInDim S16384x1 ![] bcast_S_S16384x1 v10) v11 v12
      ∧ v14 = concatenate S16384x2 1 [⟨S16384x1, a⟩, ⟨S16384x1, b⟩] concatenates_S16384x1_S16384x1_S16384x2_d1 ∧ True)
    (p : Fin 16384) :
    v14 (ix2 p (0 : Fin 2)) = (cipher1 (key (ix1 (0 : Fin 2))) (key (ix1 (1 : Fin 2))) 0#32 (x (ix1 p))).1
      ∧ v14 (ix2 p (1 : Fin 2)) = (cipher1 (key (ix1 (0 : Fin 2))) (key (ix1 (1 : Fin 2))) 0#32 (x (ix1 p))).2 := by
  obtain ⟨rfl, rfl, rfl, rfl, rfl, rfl, rfl, rfl, rfl, rfl, rfl, rfl, rfl, rfl, rfl, hab, rfl, -⟩ := h
  have ha := congrArg Prod.fst hab
  have hb := congrArg Prod.snd hab
  dsimp only at ha hb
  rw [left_at, right_at, ha, hb]
  rw [threefry_fst, threefry_snd, broadcastInDim_scalar_apply, broadcastInDim_scalar_apply, entry0_at, entry1_at,
    cut0_at, cut1_at, left_at, right_at, col_at, col_at]
  have e0 : Host.shrui x (broadcastInDim S16384 ![] bcast_S_S16384 (constantI S_ 32 32#32)) (ix1 p) = 0#32 := by
    show IntOp.shrui .host (x (ix1 p)) (broadcastInDim S16384 ![] bcast_S_S16384 (constantI S_ 32 32#32) (ix1 p)) = 0#32
    rw [broadcastInDim_scalar_apply]
    exact shrui_all _
  have e1 : andi x (broadcastInDim S16384 ![] bcast_S_S16384 (constantI S_ 32 4294967295#32)) (ix1 p) = x (ix1 p) := by
    show (x (ix1 p)) &&& (broadcastInDim S16384 ![] bcast_S_S16384 (constantI S_ 32 4294967295#32) (ix1 p)) = x (ix1 p)
    rw [broadcastInDim_scalar_apply]
    exact BitVec.and_allOnes
  rw [e0, e1]
  exact ⟨rfl, rfl⟩

/-- A draw from the random word of the seed. -/
theorem draw_word (x : BitVec 32) : draw (F := F) x = FloatOps.subf
    (FloatOps.ofBits .f32 (IntOp.ori (IntOp.shrui .vector (word x) 9#32) 1065353216#32)) (FloatOps.ofBits .f32 0x3F800000#32) := by
  rw [draw_eq, bits_apply]

/-- The statements of the random word of each row's key. -/
theorem word_value {K : IVec S16384x2 32} {v2 v3 v4 v5 c c0 a b v7}
    (h2 : v2 = extractStridedSlice S16384x1 ![0, 0] K slices_S16384x2_S16384x1_0_0)
    (h3 : v3 = (fun i => shapeCast S16384 v2 shapeCasts_S16384x1_S16384 i))
    (h4 : v4 = extractStridedSlice S16384x1 ![0, 1] K slices_S16384x2_S16384x1_0_1)
    (h5 : v5 = (fun i => shapeCast S16384 v4 shapeCasts_S16384x1_S16384 i))
    (hc : c = constantI S_ 32 0#32) (hc0 : c0 = constantI S_ 32 0#32)
    (hab : (a, b) = threefry v3 v5 (broadcastInDim S16384 ![] bcast_S_S16384 c) (broadcastInDim S16384 ![] bcast_S_S16384 c0))
    (h7 : v7 = xori a b) (p : Fin 16384) (x : BitVec 32)
    (h0 : K (ix2 p (0 : Fin 2)) = (cipher1 0#32 0#32 0#32 x).1) (h1 : K (ix2 p (1 : Fin 2)) = (cipher1 0#32 0#32 0#32 x).2) :
    v7 (ix1 p) = word x := by
  subst h2 h3 h4 h5 hc hc0 h7
  have ha := congrArg Prod.fst hab
  have hb := congrArg Prod.snd hab
  dsimp only at ha hb
  show IntOp.xori (a (ix1 p)) (b (ix1 p)) = _
  rw [ha, hb, threefry_fst, threefry_snd, broadcastInDim_scalar_apply, flat_at, flat_at, cut0_at, cut1_at, h0, h1]
  rfl

/-- The statements of a number between two from a random word. -/
theorem number_value {v7 c1 v8 v9 c2 v10 v11} {lo hi v0 v1 cst v12 v13 v14 v15 v16 v17 v18 v19 v20 v21}
    (h0 : v0 = id lo) (h1 : v1 = id hi) (hc1 : c1 = constantI S_ 32 9#32) (h8 : v8 = broadcastInDim S16384 ![] bcast_S_S16384 c1)
    (h9 : v9 = Host.shrui v7 v8)
    (h : c2 = constantI S_ 32 1065353216#32 ∧ v10 = broadcastInDim S16384 ![] bcast_S_S16384 c2 ∧ v11 = ori v9 v10
      ∧ v12 = bitcastToFloat (F := F) .f32 v11 ∧ cst = constant S_ .f32 0x3F800000#32 ∧ v13 = broadcastInDim S16384 ![] bcast_S_S16384 cst
      ∧ v14 = subf v12 v13 ∧ v15 = subf v1 v0 ∧ v16 = broadcastInDim S16384 ![] bcast_S_S16384 v15 ∧ v17 = mulf v14 v16
      ∧ v18 = broadcastInDim S16384 ![] bcast_S_S16384 v0 ∧ v19 = addf v17 v18
      ∧ v20 = broadcastInDim S16384 ![] bcast_S_S16384 v0 ∧ v21 = maximumf v20 v19 ∧ True)
    (p : Fin 16384) (x : BitVec 32) (h7 : v7 (ix1 p) = word x) :
    v21 (ix1 p) = FloatOps.maximumf (lo ix0)
      (FloatOps.addf (FloatOps.mulf (draw (F := F) x) (FloatOps.subf (hi ix0) (lo ix0))) (lo ix0)) := by
  have e9 : v9 (ix1 p) = IntOp.shrui .vector (word x) 9#32 := by
    rw [h9, h8, hc1, ← h7]
    exact congrFun (shrui_host v7 9#32 bcast_S_S16384 (by decide)) (ix1 p)
  rw [draw_word, ← e9]
  clear h9 h8 hc1 e9 h7
  obtain ⟨rfl, rfl, rfl, rfl, rfl, rfl, rfl, rfl, rfl, rfl, rfl, rfl, rfl, rfl, -⟩ := h
  subst h0 h1
  have e : ∀ y : FVec F S_ .f32, broadcastInDim S16384 ![] bcast_S_S16384 y (ix1 p) = y ix0 := fun y => broadcastInDim_scalar_apply _ _ _
  have e' : ∀ y : IVec S_ 32, broadcastInDim S16384 ![] bcast_S_S16384 y (ix1 p) = y ix0 := fun y => broadcastInDim_scalar_apply _ _ _
  simp only [maximumf, addf, mulf, subf, bitcastToFloat, ori, e, e', id]
  rfl

/-- The statements of a draw between two numbers, at the keys of the rows. -/
theorem uniform_value {K : IVec S16384x2 32} {v2 v3 v4 v5 c c0 a b v7 c1 v8 v9 c2 v10 v11}
    {lo hi v0 v1 cst v12 v13 v14 v15 v16 v17 v18 v19 v20 v21}
    (h : v0 = id lo ∧ v1 = id hi ∧ v2 = extractStridedSlice S16384x1 ![0, 0] K slices_S16384x2_S16384x1_0_0
      ∧ v3 = (fun i => shapeCast S16384 v2 shapeCasts_S16384x1_S16384 i)
      ∧ v4 = extractStridedSlice S16384x1 ![0, 1] K slices_S16384x2_S16384x1_0_1
      ∧ v5 = (fun i => shapeCast S16384 v4 shapeCasts_S16384x1_S16384 i)
      ∧ c = constantI S_ 32 0#32 ∧ c0 = constantI S_ 32 0#32
      ∧ (a, b) = threefry v3 v5 (broadcastInDim S16384 ![] bcast_S_S16384 c) (broadcastInDim S16384 ![] bcast_S_S16384 c0)
      ∧ v7 = xori a b ∧ c1 = constantI S_ 32 9#32 ∧ v8 = broadcastInDim S16384 ![] bcast_S_S16384 c1 ∧ v9 = Host.shrui v7 v8
      ∧ c2 = constantI S_ 32 1065353216#32 ∧ v10 = broadcastInDim S16384 ![] bcast_S_S16384 c2 ∧ v11 = ori v9 v10
      ∧ v12 = bitcastToFloat (F := F) .f32 v11 ∧ cst = constant S_ .f32 0x3F800000#32 ∧ v13 = broadcastInDim S16384 ![] bcast_S_S16384 cst
      ∧ v14 = subf v12 v13 ∧ v15 = subf v1 v0 ∧ v16 = broadcastInDim S16384 ![] bcast_S_S16384 v15 ∧ v17 = mulf v14 v16
      ∧ v18 = broadcastInDim S16384 ![] bcast_S_S16384 v0 ∧ v19 = addf v17 v18
      ∧ v20 = broadcastInDim S16384 ![] bcast_S_S16384 v0 ∧ v21 = maximumf v20 v19 ∧ True)
    (p : Fin 16384) (x : BitVec 32)
    (h0 : K (ix2 p (0 : Fin 2)) = (cipher1 0#32 0#32 0#32 x).1) (h1 : K (ix2 p (1 : Fin 2)) = (cipher1 0#32 0#32 0#32 x).2) :
    v21 (ix1 p) = FloatOps.maximumf (lo ix0)
      (FloatOps.addf (FloatOps.mulf (draw (F := F) x) (FloatOps.subf (hi ix0) (lo ix0))) (lo ix0)) := by
  obtain ⟨e0, e1, e2, e3, e4, e5, e6, e7, e8, e9, e10, e11, e12, h⟩ := h
  exact number_value e0 e1 e10 e11 e12 h p x (word_value e2 e3 e4 e5 e6 e7 e8 e9 p x h0 h1)

/-- A choice, at one place. -/
theorem select_at {s : Shape} {α : Type} (m : IVec s 1) (x y : s.Idx → α) (i : s.Idx) : select m x y i = Scalar.select (m i) (x i) (y i) := rfl

/-- The statements of the look-up of one word per row in the table of all words below a thousand. -/
theorem take_value {T : IVec S1000 32} {t c v0 v1 c0 v2 v3 w v5 c1 c2 v6 v7 v8 v9 v10 v11 c3 v12 v13 c4 v14 v15}
    (h : c = constantI S_ 32 0#32 ∧ v0 = broadcastInDim S16384 ![] bcast_S_S16384 c ∧ v1 = cmpi .slt t v0
      ∧ c0 = constantI S_ 32 1000#32 ∧ v2 = broadcastInDim S16384 ![] bcast_S_S16384 c0 ∧ v3 = addi t v2
      ∧ w = select v1 v3 t ∧ v5 = broadcastInDim S16384x1 ![0] bcast_S16384_S16384x1_0 w
      ∧ c1 = constantI S1 32 999#32 ∧ c2 = constantI S_ 32 0#32 ∧ v6 = broadcastInDim S16384x1 ![] bcast_S_S16384x1 c2
      ∧ v7 = cmpi .sge v5 v6 ∧ v8 = broadcastInDim S1x1 ![1] bcast_S1_S1x1_1 c1
      ∧ v9 = broadcastInDim S16384x1 ![0, 1] bcast_S1x1_S16384x1_0_1 v8 ∧ v10 = cmpi .sle v5 v9 ∧ v11 = andi v7 v10
      ∧ c3 = constantI S_ 1 1#1 ∧ v12 = Host.reduce IntOp.andi v11 c3 reducesTo_S16384x1_S16384_d1 h_S_
      ∧ v13 = Host.gather gather_S1000_S16384x1_S16384_n_0_n_n_0_1_1 T v5
      ∧ c4 = constantI S_ 32 2147483648#32 ∧ v14 = broadcastInDim S16384 ![] bcast_S_S16384 c4 ∧ v15 = select v12 v13 v14 ∧ True)
    (hT : T = iotaInDim S1000 32 0) (n : Fin 16384 → Fin 1000) (ht : ∀ p, t (ix1 p) = BitVec.ofNat 32 (n p).val) (p : Fin 16384) :
    v15 (ix1 p) = BitVec.ofNat 32 (n p).val := by
  obtain ⟨rfl, rfl, rfl, rfl, rfl, rfl, hw, rfl, rfl, rfl, rfl, rfl, rfl, rfl, rfl, rfl, rfl, rfl, rfl, rfl, rfl, rfl, -⟩ := h
  have hn := fun p => (n p).isLt
  have ew : ∀ p, w (ix1 p) = BitVec.ofNat 32 (n p).val := fun p => by
    rw [hw, ← ht p]
    exact wrap_of_lt (t (ix1 p)) _ (by rw [ht, BitVec.toNat_ofNat]; have := hn p; omega)
  have e5 : ∀ p z, broadcastInDim S16384x1 ![0] bcast_S16384_S16384x1_0 w (ix2 p z) = BitVec.ofNat 32 (n p).val :=
    fun p z => (col_at w p z).trans (ew p)
  have hone : ∀ i, andi (cmpi .sge (broadcastInDim S16384x1 ![0] bcast_S16384_S16384x1_0 w)
        (broadcastInDim S16384x1 ![] bcast_S_S16384x1 (constantI S_ 32 0#32)))
      (cmpi .sle (broadcastInDim S16384x1 ![0] bcast_S16384_S16384x1_0 w)
        (broadcastInDim S16384x1 ![0, 1] bcast_S1x1_S16384x1_0_1 (broadcastInDim S1x1 ![1] bcast_S1_S1x1_1 (constantI S1 32 999#32)))) i
      = 1#1 := fun i => by
    obtain ⟨a, z, rfl⟩ : ∃ (a : Fin 16384) (z : Fin 1), i = ix2 a z := ⟨i 0, i 1, ValueIdx.eq_ix2 i⟩
    have ha := hn a
    show IntOp.andi (IntOp.cmpi .sge (broadcastInDim S16384x1 ![0] bcast_S16384_S16384x1_0 w (ix2 a z)) (BitVec.ofNat 32 0))
      (IntOp.cmpi .sle (broadcastInDim S16384x1 ![0] bcast_S16384_S16384x1_0 w (ix2 a z)) (BitVec.ofNat 32 999)) = 1#1
    rw [e5, WordCmp.cmpi_sge_ofNat (by omega) (by decide), WordCmp.cmpi_sle_ofNat (by omega) (by decide),
      decide_eq_true (by omega), decide_eq_true (by omega)]
    rfl
  have hmask := Host.reduce_andi_one _ (constantI S_ 1 1#1) reducesTo_S16384x1_S16384_d1 h_S_ (ix1 p) rfl hone
  have htab := gather_take1 gather_S1000_S16384x1_S16384_n_0_n_n_0_1_1 rfl rfl rfl rfl T
    (broadcastInDim S16384x1 ![0] bcast_S16384_S16384x1_0 w) p (n p) (e5 p 0) (by decide)
  rw [select_at, hmask, htab, hT]
  rfl

end Cert.ReferenceIdeal.Own

end
-- ==== Proof.Ref.Lines.lean ====
module

public import proofs.«01_k».proof.Proof.Ref.Cells

@[expose] public section

set_option maxRecDepth 16384

noncomputable section

/-! The functions the reference calls, as lines of operations, with what each leaves. -/

namespace Cert.ReferenceIdeal.Own

open Idealize.ShloMosaic hiding ix0 ix1 ix2
open Idealize.ShloMosaic.ValueIdx
open Cert.ReferenceIdeal Cert.ReferenceIdeal.Gen Cert.Sample Cert.Ssa

variable {F : FTy → Type} [FloatOps F]

set_option maxHeartbeats 4000000 in
/-- Folding each row's number into the key: every row's pair of words is the cipher of that number under the key. -/
theorem fold_line {lo : ℕ} (hlo : lo ≤ num main_call0.c.ref) :
    Line (Val := Elt F) lo (num main_call0.v14.ref + 1) (fn_threefry_fold_in.body (.of main_v6) (.of main_v7) main_call0) fun G =>
      ∀ p : Fin 16384,
        rd main_call0.v14 G (ix2 p (0 : Fin 2)) = (cipher1 (rd (.of main_v6 : StableHlo.TRef sig ⟨S2, .i32⟩) G (ix1 (0 : Fin 2)))
          (rd (.of main_v6 : StableHlo.TRef sig ⟨S2, .i32⟩) G (ix1 (1 : Fin 2))) 0#32
          (rd (.of main_v7 : StableHlo.TRef sig ⟨S16384, .i32⟩) G (ix1 p))).1
        ∧ rd main_call0.v14 G (ix2 p (1 : Fin 2)) = (cipher1 (rd (.of main_v6 : StableHlo.TRef sig ⟨S2, .i32⟩) G (ix1 (0 : Fin 2)))
          (rd (.of main_v6 : StableHlo.TRef sig ⟨S2, .i32⟩) G (ix1 (1 : Fin 2))) 0#32
          (rd (.of main_v7 : StableHlo.TRef sig ⟨S16384, .i32⟩) G (ix1 p))).2 := by
  apply Line.mono
  case hp =>
    unfold fn_threefry_fold_in.body
    repeat' first
      | with_reducible apply Line.bind
      | with_reducible apply Line.binary
      | with_reducible apply Line.unary
      | with_reducible apply Line.nullary
      | with_reducible apply Line.reshape
      | with_reducible apply cipher_fold
      | with_reducible apply Line.nil
      | exact hlo
      | exact Nat.le_of_ble_eq_true rfl
  case h =>
    intro G h p
    exact fold_value h p

set_option maxHeartbeats 4000000 in
/-- The draw of each row: one uniform number between the two ends, from the row's pair of words. -/
theorem uniform_line {lo : ℕ} (hlo : lo ≤ num main_call1.v0.ref) :
    Line (Val := Elt F) lo (num main_call1.v21.ref + 1)
      (fn_uniform.body (.of main_v8) (.of main_cst) (.of main_cst_2) main_call1) fun G =>
      ∀ (p : Fin 16384) (x : BitVec 32),
        rd (.of main_v8 : StableHlo.TRef sig ⟨S16384x2, .i32⟩) G (ix2 p (0 : Fin 2)) = (cipher1 0#32 0#32 0#32 x).1 →
        rd (.of main_v8 : StableHlo.TRef sig ⟨S16384x2, .i32⟩) G (ix2 p (1 : Fin 2)) = (cipher1 0#32 0#32 0#32 x).2 →
        rd main_call1.v21 G (ix1 p) = FloatOps.maximumf (rd (.of main_cst : StableHlo.TRef sig ⟨S_, .f32⟩) G ix0)
          (FloatOps.addf (FloatOps.mulf (draw (F := F) x)
            (FloatOps.subf (rd (.of main_cst_2 : StableHlo.TRef sig ⟨S_, .f32⟩) G ix0) (rd (.of main_cst : StableHlo.TRef sig ⟨S_, .f32⟩) G ix0)))
            (rd (.of main_cst : StableHlo.TRef sig ⟨S_, .f32⟩) G ix0)) := by
  apply Line.mono
  case hp =>
    unfold fn_uniform.body
    repeat' first
      | with_reducible apply Line.bind
      | with_reducible apply Line.binary
      | with_reducible apply Line.unary
      | with_reducible apply Line.nullary
      | with_reducible apply Line.reshape
      | with_reducible apply cipher_draw
      | with_reducible apply Line.nil
      | exact hlo
      | exact Nat.le_of_ble_eq_true rfl
  case h =>
    intro G h p x h0 h1
    exact uniform_value h p x h0 h1

set_option maxHeartbeats 4000000 in
/-- The running sums along every row. -/
theorem cumsum_line {lo : ℕ} (hlo : lo ≤ num main_call2.call0.cst.ref) :
    Line (Val := Elt F) lo (num main_call2.call0.v1.ref + 1) (fn_cumsum.body (.of main_arg0) main_call2) fun G =>
      rd main_call2.call0.v1 G = Host.reduceWindowAdd ![1, 1000] ![1, 1] ![0, 999] ![0, 0]
        (rd (.of main_arg0 : StableHlo.TRef sig ⟨S16384x1000, .f32⟩) G)
        (broadcastInDim S_ ![] bcast_S_S_ (constant (F := F) S_ .f32 0x00000000#32))
        reduceWindows_S16384x1000_S16384x1000_w1s1p0_0_w1000s1p999_0 h_S_ := by
  apply Line.mono
  case hp =>
    unfold fn_cumsum.body fn_cumsum_1.body
    repeat' first
      | with_reducible apply Line.bind
      | with_reducible apply Line.binary
      | with_reducible apply Line.unary
      | with_reducible apply Line.nullary
      | with_reducible apply Line.nil
      | exact hlo
      | exact Nat.le_of_ble_eq_true rfl
  case h =>
    intro G h
    obtain ⟨⟨h0, h1, h2, -⟩, -⟩ := h
    rw [h2, h1, h0]

set_option maxHeartbeats 4000000 in
/-- The look-up of one word per row. -/
theorem take_line {lo : ℕ} (hlo : lo ≤ num main_call3.c.ref) :
    Line (Val := Elt F) lo (num main_call3.v15.ref + 1) (fn_take.body (.of main_v10) (.of main_v21) main_call3) fun G =>
      rd (.of main_v10 : StableHlo.TRef sig ⟨S1000, .i32⟩) G = iotaInDim S1000 32 0 →
      ∀ n : Fin 16384 → Fin 1000,
        (∀ p, rd (.of main_v21 : StableHlo.TRef sig ⟨S16384, .i32⟩) G (ix1 p) = BitVec.ofNat 32 (n p).val) →
        ∀ p, rd main_call3.v15 G (ix1 p) = BitVec.ofNat 32 (n p).val := by
  apply Line.mono
  case hp =>
    unfold fn_take.body fn_where.body
    repeat' first
      | with_reducible apply Line.bind
      | with_reducible apply Line.ternary
      | with_reducible apply Line.binary
      | with_reducible apply Line.unary
      | with_reducible apply Line.nullary
      | with_reducible apply Line.nil
      | exact hlo
      | exact Nat.le_of_ble_eq_true rfl
  case h =>
    intro G h hT n ht p
    obtain ⟨h0, h1, h2, h3, h4, h5, ⟨h6, -⟩, h⟩ := h
    exact take_value ⟨h0, h1, h2, h3, h4, h5, h6, h⟩ hT n ht p

end Cert.ReferenceIdeal.Own

end
-- ==== Proof.Ref.Scatter.lean ====
module

public import Idealize.ShloMosaic.Lib.Routing.OpsOne
public import Idealize.ShloMosaic.Lib.Routing.OpsPair

@[expose] public section

noncomputable section

/-! A scatter of one scalar per row into a table: the row's entry at its column takes the update, all others stay. -/

namespace Cert.Sample

open Idealize.ShloMosaic
open Idealize.ShloMosaic.ValueIdx Idealize.ShloMosaic.Routing

/-- Update `b` of a scatter of scalars, two index words each, lands at `(r, c)` exactly when its words are `r` and `c`. -/
theorem lands_iff {R C B : ℕ} (d : ScatterDims (shape2 R C) (shape2 B 2) (shape1 B)) (hiw : d.insertedWindowDims = [0, 1])
    (hsd : d.scatterDimsToOperandDims = [0, 1]) (hivd : d.indexVectorDim = 1) (idx : IVec (shape2 B 2) 32)
    (b : Fin B) (r : Fin R) (c : Fin C) :
    d.resultIdx? (ix1 b) idx = some (ix2 r c) ↔ (idx (ix2 b 0)).toInt = r.val ∧ (idx (ix2 b 1)).toInt = c.val := by
  have huw : d.updateWindowDims = [] := List.eq_nil_of_length_eq_zero (by
    rw [d.window_length]
    show ((shape2 R C).kept d.insertedWindowDims).length = 0
    rw [hiw]
    rfl)
  have hin : ∀ q : Fin 2, q ∈ [(0 : Fin 2), 1] := by decide
  have hidx : ∀ q : Fin 2, List.idxOf q [(0 : Fin 2), 1] = q.val := by decide
  have hm : ∀ q : Fin 2, q ∈ d.scatterDimsToOperandDims := fun q => hsd ▸ hin q
  have hk : d.siKept = [0] := by
    show (List.finRange 2).filter (fun x => decide (x.val ≠ d.indexVectorDim)) = _
    rw [hivd]
    rfl
  have hu : d.uScatter = [0] := by
    show (shape1 B).kept d.updateWindowDims = _
    rw [huw]
    rfl
  have hat : ∀ (l : List (Fin 1)) (n : ℕ) (h : n < l.length), l[n]'h = 0 := fun _ _ _ => Subsingleton.elim _ _
  have hstart : ∀ q : Fin 2, d.start (ix1 b) idx q + (d.window (ix1 b) q : Int) = (idx (ix2 b q)).toInt := fun q => by
    have hw : d.window (ix1 b) q = 0 := by
      unfold ScatterDims.window
      rw [dif_neg fun h => (of_decide_eq_true (List.mem_filter.1 h).2) (hiw ▸ hin q)]
    rw [hw]
    unfold ScatterDims.start
    rw [dif_pos (hm q)]
    refine (add_zero _).trans (congrArg (fun i => (idx i).toInt) (funext fun a => Fin.ext ?_))
    match a with
    | ⟨0, _⟩ =>
      unfold ScatterDims.siIdx
      rw [dif_neg (by rw [hivd]; exact (by decide : (0 : ℕ) ≠ 1))]
      unfold ScatterDims.siCoord
      simp only [Fin.val_cast]
      rw [hat]
    | ⟨1, _⟩ =>
      unfold ScatterDims.siIdx
      rw [dif_pos (by rw [hivd])]
      show List.idxOf q d.scatterDimsToOperandDims = q.val
      rw [hsd]
      exact hidx q
  rw [resultIdx?_ix2, hstart, hstart]

/-- A left fold that changes its value at one position of a list only. -/
theorem foldl_once {ι α : Type} [DecidableEq ι] (P : ι → Prop) [DecidablePred P] (f : α → ι → α) (n : ι) (l : List ι)
    (hl : l.Nodup) (hn : n ∈ l) (hP : ∀ k ∈ l, P k → k = n) (a : α) :
    l.foldl (fun a k => if P k then f a k else a) a = if P n then f a n else a := by
  have hstay : ∀ (l : List ι) (a : α), (∀ k ∈ l, ¬ P k) → l.foldl (fun a k => if P k then f a k else a) a = a := by
    intro l
    induction l with
    | nil => exact fun a _ => rfl
    | cons k l ih =>
      intro a h
      rw [List.foldl_cons, if_neg (h k List.mem_cons_self)]
      exact ih a fun k hk => h k (List.mem_cons_of_mem _ hk)
  induction l generalizing a with
  | nil => cases hn
  | cons k l ih =>
    rw [List.foldl_cons]
    obtain ⟨hk, hl⟩ := List.nodup_cons.1 hl
    rcases List.mem_cons.1 hn with rfl | hn
    · exact hstay l _ fun m hm h => hk (hP m (List.mem_cons_of_mem _ hm) h ▸ hm)
    · rw [if_neg fun h => hk (hP k List.mem_cons_self h ▸ hn)]
      exact ih hl hn (fun m hm => hP m (List.mem_cons_of_mem _ hm)) a

/-- Row `r` of a scatter that adds one at each row's own column `g`: the entry at the column is one more. -/
theorem scatter_rows {C B : ℕ} (d : ScatterDims (shape2 B C) (shape2 B 2) (shape1 B)) (hiw : d.insertedWindowDims = [0, 1])
    (hsd : d.scatterDimsToOperandDims = [0, 1]) (hivd : d.indexVectorDim = 1) (x : IVec (shape2 B C) 32)
    (idx : IVec (shape2 B 2) 32) (upd : IVec (shape1 B) 32) (g : Fin B → ℕ) (hB : B ≤ 2 ^ 31) (hg : ∀ b, g b < 2 ^ 31)
    (h0 : ∀ b : Fin B, idx (ix2 b 0) = BitVec.ofNat 32 b.val) (h1 : ∀ b, idx (ix2 b 1) = BitVec.ofNat 32 (g b))
    (r : Fin B) (c : Fin C) :
    Host.scatter d IntOp.addi x idx upd (ix2 r c) = if g r = c.val then IntOp.addi (x (ix2 r c)) (upd (ix1 r)) else x (ix2 r c) := by
  have hland : ∀ b : Fin B, d.resultIdx? (ix1 b) idx = some (ix2 r c) ↔ b = r ∧ g r = c.val := fun b => by
    rw [lands_iff d hiw hsd hivd, h0, h1, StableHlo.Predicate.toInt_ofNat_small _ (by omega),
      StableHlo.Predicate.toInt_ofNat_small _ (hg b)]
    constructor
    · rintro ⟨h, h'⟩
      have e : b = r := Fin.ext (by omega)
      subst e
      exact ⟨rfl, by omega⟩
    · rintro ⟨rfl, h'⟩
      exact ⟨rfl, by omega⟩
  rw [scatter_at]
  refine (foldl_once (fun n => d.resultIdx? ((shape1 B).rowMajor.symm n) idx = some (ix2 r c))
    (fun a n => IntOp.addi a (upd ((shape1 B).rowMajor.symm n))) (r.cast (numel1 B).symm) _ (List.nodup_finRange _)
    (List.mem_finRange _) (fun n _ h => ?_) _).trans ?_
  · rw [symm1] at h
    exact Fin.ext (Fin.val_eq_of_eq ((hland _).1 h).1 :)
  · simp only [symm1]
    exact if_congr ((hland r).trans ⟨fun h => h.2, fun h => ⟨rfl, h⟩⟩) rfl rfl

end Cert.Sample

end
-- ==== Proof.Ref.Rows.lean ====
module

public import proofs.«01_k».proof.Proof.Ref.Lines
public import proofs.«01_k».proof.Proof.Ref.Scatter

@[expose] public section

set_option maxRecDepth 16384

noncomputable section

/-! The reference's own statements, one row at a time. -/

namespace Cert.ReferenceIdeal.Own

open Idealize.ShloMosaic hiding ix0 ix1 ix2
open Idealize.ShloMosaic.ValueIdx Idealize.ShloMosaic.Routing
open Cert.ReferenceIdeal Cert.ReferenceIdeal.Gen Cert.Sample

variable {F : FTy → Type} [FloatOps F] {α : Type}

/-- Both words of the key of the number zero are zero. -/
theorem key_value {c c0 v0 v1 v2 c1 v3 v4 v5 v6}
    (h : c = constantI S_ 32 0#32 ∧ c0 = constantI S_ 32 32#32 ∧ v0 = Host.shrui c c0 ∧ v1 = id v0
      ∧ v2 = broadcastInDim S1 ![] bcast_S_S1 v1 ∧ c1 = constantI S_ 32 4294967295#32 ∧ v3 = andi c c1 ∧ v4 = id v3
      ∧ v5 = broadcastInDim S1 ![] bcast_S_S1 v4
      ∧ v6 = concatenate S2 0 [⟨S1, v2⟩, ⟨S1, v5⟩] concatenates_S1_S1_S2_d0) :
    v6 (ix1 (0 : Fin 2)) = 0#32 ∧ v6 (ix1 (1 : Fin 2)) = 0#32 := by
  obtain ⟨rfl, rfl, rfl, rfl, rfl, rfl, rfl, rfl, rfl, rfl⟩ := h
  constructor
  · refine (concatenate_pair_apply_left (t := S2) (s₁ := S1) (s₂ := S1) 0 _ _ _ (ix1 (0 : Fin 2)) rfl (ix1 (0 : Fin 1))
      fun b => match b with
      | ⟨0, _⟩ => rfl).trans ?_
    rw [broadcastInDim_scalar_apply]
    exact shrui_all 0#32
  · refine (concatenate_pair_apply_right (t := S2) (s₁ := S1) (s₂ := S1) 0 _ _ _ (ix1 (1 : Fin 2)) rfl rfl (ix1 (0 : Fin 1))
      (fun b => match b with
      | ⟨0, _⟩ => fun h => (h rfl).elim) rfl).trans ?_
    rw [broadcastInDim_scalar_apply]
    rfl

/-- The last column of a table, as a column. -/
theorem last_at (x : S16384x1000.Idx → α) (p : Fin 16384) :
    extractStridedSlice S16384x1 ![0, 999] x slices_S16384x1000_S16384x1_0_999 (ix2 p (0 : Fin 1)) = x (ix2 p (999 : Fin 1000)) :=
  extractStridedSlice_apply _ _ _ _ _ fun a => match a with
    | ⟨0, _⟩ => (Nat.zero_add _).symm
    | ⟨1, _⟩ => rfl

/-- A column repeated along every row. -/
theorem spread_at (x : S16384x1.Idx → α) (p : Fin 16384) (k : Fin 1000) :
    broadcastInDim S16384x1000 ![0, 1] bcast_S16384x1_S16384x1000_0_1 x (ix2 p k) = x (ix2 p (0 : Fin 1)) :=
  broadcastInDim_apply _ _ _ _ _ fun a => match a with
    | ⟨0, _⟩ => (if_neg (show ¬ (16384 : ℕ) = 1 by decide)).symm
    | ⟨1, _⟩ => (if_pos rfl).symm

/-- The comparison of each running sum with the row's total, scaled by one less the draw. -/
theorem compare_value {v11 v12 v13 v14 v15 v16 v17 v18 v9 v19} {c3 : S_.Idx → F .f32}
    (h : v12 = extractStridedSlice S16384x1 ![0, 999] v11 slices_S16384x1000_S16384x1_0_999
      ∧ v13 = (fun i => shapeCast S16384 v12 shapeCasts_S16384x1_S16384 i) ∧ c3 = constant S_ .f32 0x3F800000#32
      ∧ v14 = broadcastInDim S16384 ![] bcast_S_S16384 c3 ∧ v15 = subf v14 v9 ∧ v16 = mulf v13 v15
      ∧ v17 = broadcastInDim S16384x1 ![0] bcast_S16384_S16384x1_0 v16
      ∧ v18 = broadcastInDim S16384x1000 ![0, 1] bcast_S16384x1_S16384x1000_0_1 v17 ∧ v19 = cmpf .olt v11 v18)
    (p : Fin 16384) (k : Fin 1000) :
    v19 (ix2 p k) = FloatOps.cmpf .olt (v11 (ix2 p k))
      (FloatOps.mulf (v11 (ix2 p (999 : Fin 1000))) (FloatOps.subf (FloatOps.ofBits .f32 0x3F800000#32) (v9 (ix1 p)))) := by
  obtain ⟨rfl, rfl, rfl, rfl, rfl, rfl, rfl, rfl, rfl⟩ := h
  show FloatOps.cmpf .olt _ _ = _
  rw [spread_at, col_at]
  have e : ∀ y : FVec F S_ .f32, broadcastInDim S16384 ![] bcast_S_S16384 y (ix1 p) = y ix0 := fun y => broadcastInDim_scalar_apply _ _ _
  simp only [mulf, subf]
  rw [flat_at, last_at, e]
  rfl

/-- The mark of each row: one is added at the row's own position, and nowhere else. -/
theorem mark_value {v23 c5 v24 v25 c6 v26 v27 v28 c7 v29 v30 c8 v31 v32 v33 v34 v35 v36 c9 v37 v38} {v22 : IVec S16384 32}
    {hist : IVec S16384x1000 32}
    (h : v23 = iotaInDim S16384 32 0 ∧ c5 = constantI S_ 32 0#32 ∧ v24 = broadcastInDim S16384 ![] bcast_S_S16384 c5
      ∧ v25 = cmpi .slt v23 v24 ∧ c6 = constantI S_ 32 16384#32 ∧ v26 = broadcastInDim S16384 ![] bcast_S_S16384 c6
      ∧ v27 = addi v23 v26 ∧ v28 = select v25 v27 v23 ∧ c7 = constantI S_ 32 0#32
      ∧ v29 = broadcastInDim S16384 ![] bcast_S_S16384 c7 ∧ v30 = cmpi .slt v22 v29 ∧ c8 = constantI S_ 32 1000#32
      ∧ v31 = broadcastInDim S16384 ![] bcast_S_S16384 c8 ∧ v32 = addi v22 v31 ∧ v33 = select v30 v32 v22
      ∧ v34 = broadcastInDim S16384x1 ![0] bcast_S16384_S16384x1_0 v28
      ∧ v35 = broadcastInDim S16384x1 ![0] bcast_S16384_S16384x1_0 v33
      ∧ v36 = concatenate S16384x2 1 [⟨S16384x1, v34⟩, ⟨S16384x1, v35⟩] concatenates_S16384x1_S16384x1_S16384x2_d1
      ∧ c9 = constantI S_ 32 1#32 ∧ v37 = broadcastInDim S16384 ![] bcast_S_S16384 c9
      ∧ v38 = Host.scatter scatter_S16384x1000_S16384x2_S16384_n_01_01_1 IntOp.addi hist v36 v37 ∧ True)
    (n : Fin 16384 → Fin 1000) (hn : ∀ p, v22 (ix1 p) = BitVec.ofNat 32 (n p).val) (p : Fin 16384) (k : Fin 1000) :
    v38 (ix2 p k) = if (n p).val = k.val then hist (ix2 p k) + 1#32 else hist (ix2 p k) := by
  obtain ⟨e0, e1, e2, e3, e4, e5, e6, h28, e7, e8, e9, e10, e11, e12, h33, e13, e14, e15, e16, e17, e18, -⟩ := h
  have hk := fun p => (n p).isLt
  have e28 : ∀ p : Fin 16384, v28 (ix1 p) = BitVec.ofNat 32 p.val := fun p => by
    rw [h28, e3, e6, e2, e1, e5, e4, e0]
    exact wrap_of_lt (BitVec.ofNat 32 p.val) _ (by rw [BitVec.toNat_ofNat]; have := p.isLt; omega)
  have e33 : ∀ p : Fin 16384, v33 (ix1 p) = BitVec.ofNat 32 (n p).val := fun p => by
    rw [h33, e9, e12, e11, e8, e7, e10, ← hn p]
    exact wrap_of_lt (v22 (ix1 p)) _ (by rw [hn, BitVec.toNat_ofNat]; have := hk p; omega)
  rw [e18, e15, e13, e14, e17, e16, scatter_rows scatter_S16384x1000_S16384x2_S16384_n_01_01_1 rfl rfl rfl hist _ _ (fun p => (n p).val) (by norm_num)
    (fun b => by have := hk b; omega) (fun b => (left_at _ _ b).trans ((col_at _ b 0).trans (e28 b)))
    (fun b => (right_at _ _ b).trans ((col_at _ b 0).trans (e33 b))) p k, broadcastInDim_scalar_apply]
  rfl

end Cert.ReferenceIdeal.Own

end
-- ==== Proof.Ref.Main.lean ====
module

public import proofs.«01_k».proof.Proof.Ref.Rows

@[expose] public section

set_option maxRecDepth 16384

noncomputable section

/-! The reference as one line of operations, with what it leaves. -/

namespace Cert.ReferenceIdeal.Own

open Idealize.ShloMosaic hiding ix0 ix1 ix2
open Idealize.ShloMosaic.ValueIdx
open Cert.ReferenceIdeal Cert.ReferenceIdeal.Gen Cert.Sample Cert.Ssa

variable {F : FTy → Type} [FloatOps F]

/-- The weights, the table and the seeds in a valuation, and the two results. -/
abbrev inW (G : Valuation τ sig (Elt F)) : FVec F S16384x1000 .f32 := G (Proc.devRef .tc main_arg0)
abbrev inT (G : Valuation τ sig (Elt F)) : IVec S16384x1000 32 := G (Proc.devRef .tc main_arg1)
abbrev inS (G : Valuation τ sig (Elt F)) : IVec S16384 32 := G (Proc.devRef .tc main_arg2)
abbrev outP (G : Valuation τ sig (Elt F)) : IVec S16384 32 := G (Proc.devRef .tc main_v22)
abbrev outM (G : Valuation τ sig (Elt F)) : IVec S16384x1000 32 := G (Proc.devRef .tc main_v38)

/-- What the reference leaves in a valuation, row by row: the draws, the running sums, their comparisons, the
    counts, the looked-up positions and the marks. -/
structure Left (G : Valuation τ sig (Elt F)) : Prop where
  draws : ∀ p : Fin 16384, rd (.of main_v9 : StableHlo.TRef sig ⟨S16384, .f32⟩) G (ix1 p)
    = FloatOps.maximumf (FloatOps.ofBits .f32 0x00000000#32)
        (FloatOps.addf (FloatOps.mulf (draw (F := F) (rd (.of main_arg2 : StableHlo.TRef sig ⟨S16384, .i32⟩) G (ix1 p)))
          (FloatOps.subf (FloatOps.ofBits .f32 0x3F800000#32) (FloatOps.ofBits .f32 0x00000000#32)))
          (FloatOps.ofBits .f32 0x00000000#32))
  sums : rd (.of main_v11 : StableHlo.TRef sig ⟨S16384x1000, .f32⟩) G = Host.reduceWindowAdd ![1, 1000] ![1, 1] ![0, 999] ![0, 0]
        (rd (.of main_arg0 : StableHlo.TRef sig ⟨S16384x1000, .f32⟩) G)
        (broadcastInDim S_ ![] bcast_S_S_ (constant (F := F) S_ .f32 0x00000000#32))
        reduceWindows_S16384x1000_S16384x1000_w1s1p0_0_w1000s1p999_0 h_S_
  below : ∀ (p : Fin 16384) (k : Fin 1000), rd (.of main_v19 : StableHlo.TRef sig ⟨S16384x1000, .i1⟩) G (ix2 p k)
    = FloatOps.cmpf .olt (rd (.of main_v11 : StableHlo.TRef sig ⟨S16384x1000, .f32⟩) G (ix2 p k))
        (FloatOps.mulf (rd (.of main_v11 : StableHlo.TRef sig ⟨S16384x1000, .f32⟩) G (ix2 p (999 : Fin 1000)))
          (FloatOps.subf (FloatOps.ofBits .f32 0x3F800000#32) (rd (.of main_v9 : StableHlo.TRef sig ⟨S16384, .f32⟩) G (ix1 p))))
  counts : rd (.of main_v21 : StableHlo.TRef sig ⟨S16384, .i32⟩) G
    = Host.reduce IntOp.addi (extui 32 (rd (.of main_v19 : StableHlo.TRef sig ⟨S16384x1000, .i1⟩) G) natLt_1_32)
        (constantI S_ 32 0#32) reducesTo_S16384x1000_S16384_d1 h_S_
  looked : ∀ n : Fin 16384 → Fin 1000,
    (∀ p, rd (.of main_v21 : StableHlo.TRef sig ⟨S16384, .i32⟩) G (ix1 p) = BitVec.ofNat 32 (n p).val) →
    ∀ p, rd (.of main_v22 : StableHlo.TRef sig ⟨S16384, .i32⟩) G (ix1 p) = BitVec.ofNat 32 (n p).val
  marks : ∀ n : Fin 16384 → Fin 1000,
    (∀ p, rd (.of main_v22 : StableHlo.TRef sig ⟨S16384, .i32⟩) G (ix1 p) = BitVec.ofNat 32 (n p).val) →
    ∀ (p : Fin 16384) (k : Fin 1000), rd (.of main_v38 : StableHlo.TRef sig ⟨S16384x1000, .i32⟩) G (ix2 p k)
      = if (n p).val = k.val then rd (.of main_arg1 : StableHlo.TRef sig ⟨S16384x1000, .i32⟩) G (ix2 p k) + 1#32
        else rd (.of main_arg1 : StableHlo.TRef sig ⟨S16384x1000, .i32⟩) G (ix2 p k)

set_option maxHeartbeats 8000000 in
/-- The reference is a line of operations above its arguments, and leaves what `Left` says. -/
theorem main_line (d : Dev nD) : Line (Val := Elt F) 3 (num main_v38 + 1) (main d) Left := by
  apply Line.mono
  case hp =>
    unfold main
    repeat' first
      | with_reducible apply Line.bind
      | with_reducible apply Line.map₃
      | with_reducible apply Line.map₂
      | with_reducible apply Line.map
      | with_reducible apply Line.const
      | with_reducible apply Line.shape
      | with_reducible apply fold_line
      | with_reducible apply uniform_line
      | with_reducible apply cumsum_line
      | with_reducible apply take_line
      | with_reducible apply Line.nil
      | exact Nat.le_of_ble_eq_true rfl
  case h =>
    intro G h
    obtain ⟨a0, a1, a2, a3, a4, a5, a6, a7, a8, a9, a10, fold, z, o, unif, ten, cum, b0, b1, b2, b3, b4, b5, b6, b7, b8,
      ext, c4, red, take, mark⟩ := h
    have key := key_value ⟨a0, a1, a2, a3, a4, a5, a6, a7, a8, a9⟩
    refine ⟨fun p => ?_, cum, compare_value ⟨b0, b1, b2, b3, b4, b5, b6, b7, b8⟩, ?_, take ten, mark_value mark⟩
    · obtain ⟨f0, f1⟩ := fold p
      have e := unif p (rd (.of main_arg2 : StableHlo.TRef sig ⟨S16384, .i32⟩) G (ix1 p)) (f0.trans ?_) (f1.trans ?_)
      · refine e.trans ?_
        have ez : rd (.of main_cst : StableHlo.TRef sig ⟨S_, .f32⟩) G = constant S_ .f32 0x00000000#32 := z
        have eo : rd (.of main_cst_2 : StableHlo.TRef sig ⟨S_, .f32⟩) G = constant S_ .f32 0x3F800000#32 := o
        rw [ez, eo]
        rfl
      all_goals
        have k0 : rd (.of main_v6 : StableHlo.TRef sig ⟨S2, .i32⟩) G (ix1 (0 : Fin 2)) = 0#32 := key.1
        have k1 : rd (.of main_v6 : StableHlo.TRef sig ⟨S2, .i32⟩) G (ix1 (1 : Fin 2)) = 0#32 := key.2
        have e7 : rd (.of main_v7 : StableHlo.TRef sig ⟨S16384, .i32⟩) G = rd (.of main_arg2 : StableHlo.TRef sig ⟨S16384, .i32⟩) G := a10
        rw [k0, k1, e7]
    · have e20 : rd (.of main_v20 : StableHlo.TRef sig ⟨S16384x1000, .i32⟩) G
          = extui 32 (rd (.of main_v19 : StableHlo.TRef sig ⟨S16384x1000, .i1⟩) G) natLt_1_32 := ext
      have e4 : rd (.of main_c_4 : StableHlo.TRef sig ⟨S_, .i32⟩) G = constantI S_ 32 0#32 := c4
      rw [← e20, ← e4]
      exact red

end Cert.ReferenceIdeal.Own

end
-- ==== Proof.Ref.Math.lean ====
module

public import proofs.«01_k».proof.Proof.K.Lane
public import Idealize.ShloMosaic.Lib.IdealHost
public import Mathlib.Data.Nat.Count
public import Mathlib.Data.EReal.Operations

@[expose] public section

noncomputable section

/-! One lane over the extended reals: the grouped sums of the kernel are the plain cumulative sums. -/

namespace Cert.Sample

open Idealize.ShloMosaic
open Finset (range)

/-- The sum of the first `n` weights. -/
def cum (w : ℕ → EReal) (n : ℕ) : EReal := ∑ i ∈ range n, w i

/-- The cumulative sum up to and with weight `k` lies below the total times one minus `u`. -/
def Below (w : ℕ → EReal) (u : EReal) (k : ℕ) : Prop := cum w (k + 1) < cum w 1000 * (1 - u)

instance (w : ℕ → EReal) (u : EReal) : DecidablePred (Below w u) := fun _ => Classical.dec _

/-- The position drawn from the weights `w` by the number `u`: how many cumulative sums lie below. -/
def position (w : ℕ → EReal) (u : EReal) : ℕ := Nat.count (Below w u) 1000

variable (w : ℕ → EReal) (u : EReal)

theorem laneRun_eq (g n : ℕ) : laneRun (F := Ideal) w g n = ∑ p ∈ range n, w (128 * g + p) := by
  induction n with
  | zero => exact Ideal.ofBits_zero_f32
  | succ n ih =>
    rw [Finset.sum_range_succ, ← ih, Nat.add_comm (128 * g) n]
    rfl

theorem cum_add (m n : ℕ) : cum w (m + n) = cum w m + ∑ p ∈ range n, w (m + p) := Finset.sum_range_add _ _ _

theorem lanePre_eq (g : ℕ) : lanePre (F := Ideal) w g = cum w (128 * g) := by
  induction g with
  | zero => exact Ideal.ofBits_zero_f32
  | succ g ih =>
    rw [Nat.mul_succ, cum_add, ← ih, ← laneRun_eq]
    rfl

/-- The kernel's cumulative sum is the plain one. -/
theorem laneCum_eq (g p : ℕ) : laneCum (F := Ideal) w g p = cum w (128 * g + p + 1) := by
  unfold laneCum
  rw [Nat.add_assoc, cum_add, ← laneRun_eq, ← lanePre_eq]
  exact add_comm _ _

/-- The kernel's total is the plain one. -/
theorem laneTotal_eq : laneTotal (F := Ideal) w = cum w 1000 := by
  rw [show 1000 = 128 * 7 + 104 from rfl, cum_add, ← laneRun_eq, ← lanePre_eq]
  rfl

theorem laneThresh_eq : laneThresh (F := Ideal) w u = cum w 1000 * (1 - u) := by
  unfold laneThresh
  rw [laneTotal_eq]
  show cum w 1000 * (Ideal.ofBits .f32 0x3F800000#32 - u) = _
  rw [Ideal.ofBits_one_f32]

theorem laneBelow_eq (g p : ℕ) : laneBelow (F := Ideal) w u g p = if Below w u (128 * g + p) then 1#32 else 0#32 := by
  unfold laneBelow
  rw [laneCum_eq, laneThresh_eq]
  show BitVec.setWidth 32 (BitVec.ofBool (decide (cum w (128 * g + p + 1) < cum w 1000 * (1 - u)))) = _
  by_cases h : Below w u (128 * g + p)
  · rw [if_pos h, decide_eq_true (show _ < _ from h)]; rfl
  · rw [if_neg h, decide_eq_false (show ¬ _ < _ from h)]; rfl

theorem sum_groups (f : ℕ → BitVec 32) (n : ℕ) :
    ∑ g ∈ range n, ∑ p ∈ range 128, f (128 * g + p) = ∑ k ∈ range (128 * n), f k := by
  induction n with
  | zero => rw [Nat.mul_zero, Finset.sum_range_zero, Finset.sum_range_zero]
  | succ n ih => rw [Finset.sum_range_succ, ih, Nat.mul_succ, Finset.sum_range_add]

theorem sum_count (Q : ℕ → Prop) [DecidablePred Q] (n : ℕ) :
    (∑ k ∈ range n, if Q k then 1#32 else 0#32) = BitVec.ofNat 32 (Nat.count Q n) := by
  induction n with
  | zero => rw [Finset.sum_range_zero, Nat.count_zero, BitVec.ofNat_eq_ofNat]
  | succ n ih =>
    rw [Finset.sum_range_succ, ih, Nat.count_succ, BitVec.ofNat_add]
    split <;> rfl

/-- The kernel's count is the position. -/
theorem laneTally_eq : laneTally (F := Ideal) w u = BitVec.ofNat 32 (position w u) := by
  unfold laneTally position
  simp only [laneBelow_eq]
  rw [sum_groups (fun k => if Below w u k then 1#32 else 0#32) 7, ← sum_count,
    show range 1000 = range (128 * 7 + 104) from rfl, Finset.sum_range_add]

/-- With no negative weight and a number that is not negative, the last cumulative sum is not below. -/
theorem not_below_last (hw : ∀ k, k < 1000 → 0 ≤ w k) (hu : 0 ≤ u) : ¬ Below w u 999 := by
  have h0 : 0 ≤ cum w 1000 := Finset.sum_nonneg fun k hk => hw k (Finset.mem_range.1 hk)
  have h1 : 1 - u ≤ 1 := by
    rw [sub_eq_add_neg]
    calc 1 + -u ≤ 1 + 0 := add_le_add_right (EReal.neg_le_zero.2 hu) 1
      _ = 1 := add_zero 1
  show ¬ cum w 1000 < cum w 1000 * (1 - u)
  rw [not_lt]
  calc cum w 1000 * (1 - u) ≤ cum w 1000 * 1 := mul_le_mul_of_nonneg_left h1 h0
    _ = cum w 1000 := mul_one _

/-- So the position is one of the thousand. -/
theorem position_lt (hw : ∀ k, k < 1000 → 0 ≤ w k) (hu : 0 ≤ u) : position w u < 1000 := by
  unfold position
  rw [Nat.count_succ, if_neg (not_below_last w u hw hu)]
  exact lt_of_le_of_lt (Nat.count_le _) (by decide)

end Cert.Sample

end
-- ==== Proof.Ref.Cumsum.lean ====
module

public import proofs.«01_k».proof.Proof.Ref.Math
public import Idealize.ShloMosaic.Lib.Routing.OpsOne

@[expose] public section

noncomputable section

/-! The reference's cumulative sum, a window sum over the extended reals, is the plain cumulative sum of the row. -/

namespace Cert.Sample

open Idealize.ShloMosaic hiding ix0 ix1 ix2
open Idealize.ShloMosaic.ValueIdx Idealize.ShloMosaic.Routing
open Finset (range)

/-- Row `p` of a table, continued by zero. -/
def rowOf {R C : ℕ} (x : (shape2 R C).Idx → EReal) (p : Fin R) : ℕ → EReal :=
  fun k => if h : k < C then x (ix2 p ⟨k, h⟩) else 0

/-- A left fold of addition is the start plus the sum. -/
theorem foldl_add {ι : Type} (g : ι → EReal) (l : List ι) (v : EReal) :
    l.foldl (fun r a => r + g a) v = v + (l.map g).sum := by
  induction l generalizing v with
  | nil => exact (add_zero v).symm
  | cons a l ih => rw [List.foldl_cons, ih, List.map_cons, List.sum_cons, add_assoc]

/-- The sum of a list over a range is the sum over the range. -/
theorem list_sum_range (f : ℕ → EReal) (n : ℕ) : ((List.range n).map f).sum = ∑ i ∈ range n, f i := by
  induction n with
  | zero => rw [Finset.sum_range_zero]; rfl
  | succ n ih => rw [List.range_succ, List.map_append, List.sum_append, ih, Finset.sum_range_succ, List.map_singleton, List.sum_singleton]

/-- Of a window that ends at `j` and is as long as the row, only the entries up to `j` count. -/
theorem sum_tail (f : ℕ → EReal) (d j : ℕ) :
    ((List.range (j + d + 1)).map fun n => if j + d ≤ j + n then f (j + n - (j + d)) else 0).sum = cum f (j + 1) := by
  rw [list_sum_range, show j + d + 1 = d + (j + 1) by omega, Finset.sum_range_add]
  rw [Finset.sum_eq_zero fun n hn => if_neg (by have := Finset.mem_range.1 hn; omega), zero_add]
  refine Finset.sum_congr rfl fun n _ => ?_
  rw [if_pos (by omega), show j + (d + n) - (j + d) = n by omega]

/-- The cumulative sum along the rows. -/
theorem cumsum_row {R C C1 : ℕ} (hC : C1 + 1 = C) (x : (shape2 R C).Idx → EReal) (init : shape0.Idx → EReal) (hinit : init ix0 = 0)
    (h : (shape2 R C).ReduceWindows (![1, C] : Fin 2 → ℕ) ![1, 1] ![0, C1] ![0, 0] (shape2 R C)) (hu : 0 < shape0.numel)
    (p : Fin R) (j : Fin C) :
    Host.reduceWindow (· + ·) ![1, C] ![1, 1] ![0, C1] ![0, 0] x init h hu (ix2 p j) = cum (rowOf x p) (j.val + 1) := by
  subst hC
  have hv : init (Shape.Idx.first hu) = 0 := (congrArg init (eq_ix0 _)).trans hinit
  have hj := j.isLt
  have hp := p.isLt
  obtain ⟨d, hd⟩ : ∃ d, C1 = j.val + d := ⟨C1 - j.val, by omega⟩
  unfold Host.reduceWindow
  rw [hv]
  refine (foldl_add _ _ _).trans ?_
  rw [zero_add, ← sum_tail (rowOf x p) d j.val, ← hd, ← map_finRange_val]
  refine Eq.trans (congrArg List.sum (List.map_congr_left fun n _ => ?_))
    (congrArg (fun M => ((List.finRange M).map fun n => if C1 ≤ j.val + n.val then rowOf x p (j.val + n.val - C1) else 0).sum) (numel2 (C1 + 1)))
  have hw0 : ((shape2 1 (C1 + 1)).rowMajor.symm n 0).val = 0 := by rw [symm2]; rfl
  have hw1 : ((shape2 1 (C1 + 1)).rowMajor.symm n 1).val = n.val := by rw [symm2]; rfl
  have hn : n.val < C1 + 1 := (n.cast (numel2 _)).isLt
  dsimp only
  split
  · next hin =>
    have h1 := hin 1
    change C1 ≤ j.val * 1 + ((shape2 1 (C1 + 1)).rowMajor.symm n 1).val
      ∧ j.val * 1 + ((shape2 1 (C1 + 1)).rowMajor.symm n 1).val - C1 < C1 + 1 at h1
    rw [hw1] at h1
    rw [if_pos (by omega)]
    unfold rowOf
    rw [dif_pos (by omega)]
    refine congrArg x (funext fun a => Fin.ext ?_)
    match a with
    | ⟨0, _⟩ =>
      show p.val * 1 + ((shape2 1 (C1 + 1)).rowMajor.symm n 0).val - 0 = p.val
      rw [hw0]
      omega
    | ⟨1, _⟩ =>
      show j.val * 1 + ((shape2 1 (C1 + 1)).rowMajor.symm n 1).val - C1 = j.val + n.val - C1
      rw [hw1, Nat.mul_one]
  · next hin =>
    rw [if_neg fun hle => hin fun a => by
      match a with
      | ⟨0, _⟩ =>
        show 0 ≤ p.val * 1 + ((shape2 1 (C1 + 1)).rowMajor.symm n 0).val
          ∧ p.val * 1 + ((shape2 1 (C1 + 1)).rowMajor.symm n 0).val - 0 < R
        rw [hw0]
        omega
      | ⟨1, _⟩ =>
        show C1 ≤ j.val * 1 + ((shape2 1 (C1 + 1)).rowMajor.symm n 1).val
          ∧ j.val * 1 + ((shape2 1 (C1 + 1)).rowMajor.symm n 1).val - C1 < C1 + 1
        rw [hw1]
        omega]

end Cert.Sample

end
-- ==== Proof.Ref.Values.lean ====
module

public import proofs.«01_k».proof.Proof.Ref.Main
public import proofs.«01_k».proof.Proof.Ref.Cumsum
public import proofs.«01_k».proof.Proof.Ref.Math

@[expose] public section

set_option maxRecDepth 16384

noncomputable section

/-! The reference's two results at the extended reals, row by row. -/

namespace Cert.ReferenceIdeal.Own

open Idealize.ShloMosaic hiding ix0 ix1 ix2
open Idealize.ShloMosaic.ValueIdx Idealize.ShloMosaic.Routing
open Cert.ReferenceIdeal Cert.ReferenceIdeal.Gen Cert.Sample Cert.Ssa

/-- A draw that is not negative, stretched between zero and one, is itself. -/
theorem stretch_eq (u : EReal) (hu : 0 ≤ u) :
    FloatOps.maximumf (F := Ideal) (φ := .f32) (FloatOps.ofBits .f32 0x00000000#32)
      (FloatOps.addf (FloatOps.mulf u (FloatOps.subf (FloatOps.ofBits .f32 0x3F800000#32) (FloatOps.ofBits .f32 0x00000000#32)))
        (FloatOps.ofBits .f32 0x00000000#32)) = u := by
  rw [Ideal.ofBits_def, Ideal.ofBits_def, Ideal.ofBits_zero_f32, Ideal.ofBits_one_f32, Ideal.maximumf_def, Ideal.addf_def,
    Ideal.mulf_def, Ideal.subf_def]
  have e : u * ((1 : EReal) - 0) + 0 = u := by rw [sub_zero, mul_one, add_zero]
  exact (congrArg (fun z : EReal => max 0 z) e).trans (max_eq_right hu)

/-- The bit of a comparison "less than". -/
theorem less_bit (x y : EReal) : FloatOps.cmpf (F := Ideal) (φ := .f32) .olt x y = 1#1 ↔ x < y := by
  have e : FloatOps.cmpf (F := Ideal) (φ := .f32) .olt x y = BitVec.ofBool (decide (x < y)) := rfl
  rw [e]
  by_cases h : x < y
  · simp [h]
  · simp [h]

variable (G : Valuation τ sig (Elt Ideal)) (hG : Left G)
  (hw : ∀ (p : Fin 16384) (k : Fin 1000), 0 ≤ (inW G (ix2 p k) : EReal))

/-- A row's weights. -/
abbrev weights (p : Fin 16384) : ℕ → EReal := rowOf (inW G) p

/-- A row's draw. -/
abbrev number (p : Fin 16384) : EReal := draw (F := Ideal) (inS G (ix1 p))

include hw in
/-- No weight of a row is negative. -/
theorem weights_nonneg (p : Fin 16384) (k : ℕ) (hk : k < 1000) : 0 ≤ weights G p k := by
  show 0 ≤ rowOf _ p k
  unfold rowOf
  rw [dif_pos hk]
  exact hw p ⟨k, hk⟩

include hw in
/-- A row's position is one of the thousand. -/
theorem place_lt (p : Fin 16384) : position (weights G p) (number G p) < 1000 :=
  position_lt _ _ (weights_nonneg G hw p) (draw_nonneg _)

include hG in
/-- The running sums of each row. -/
theorem sums_at (p : Fin 16384) (k : Fin 1000) :
    rd (.of main_v11 : StableHlo.TRef sig ⟨S16384x1000, .f32⟩) G (ix2 p k) = cum (weights G p) (k.val + 1) := by
  rw [hG.sums]
  unfold Host.reduceWindowAdd
  rw [Ideal.hostReduceWindowAdd_def]
  unfold Ideal.hostReduceWindowAdd
  refine cumsum_row (R := 16384) (C := 1000) (C1 := 999) rfl _ _ ?_ reduceWindows_S16384x1000_S16384x1000_w1s1p0_0_w1000s1p999_0 h_S_ p k
  rw [broadcastInDim_scalar_apply]
  exact Ideal.ofBits_zero_f32

include hG in
/-- The count of each row is its position. -/
theorem counts_at (p : Fin 16384) :
    rd (.of main_v21 : StableHlo.TRef sig ⟨S16384, .i32⟩) G (ix1 p) = BitVec.ofNat 32 (position (weights G p) (number G p)) := by
  rw [hG.counts]
  refine reduce_count (by norm_num) _ _ _ _ p (Below (weights G p) (number G p)) fun k => ?_
  rw [hG.below, sums_at G hG, sums_at G hG, hG.draws, stretch_eq _ (draw_nonneg _), less_bit, Ideal.ofBits_def,
    Ideal.ofBits_one_f32]
  exact Iff.rfl

include hG hw in
/-- The first result: each row's position. -/
theorem places_at (p : Fin 16384) :
    outP G (ix1 p) = BitVec.ofNat 32 (position (weights G p) (number G p)) :=
  hG.looked (fun p => ⟨position (weights G p) (number G p), place_lt G hw p⟩) (counts_at G hG) p

include hG hw in
/-- The second result, from a table of zeros: one at each row's position, zero elsewhere. -/
theorem marks_at (hz : ∀ (p : Fin 16384) (k : Fin 1000), inT G (ix2 p k) = 0#32)
    (p : Fin 16384) (k : Fin 1000) :
    outM G (ix2 p k)
      = if position (weights G p) (number G p) = k.val then 1#32 else 0#32 := by
  refine (hG.marks (fun p => ⟨position (weights G p) (number G p), place_lt G hw p⟩) (places_at G hG hw) p k).trans ?_
  show (if position (weights G p) (number G p) = k.val then inT G (ix2 p k) + 1#32 else inT G (ix2 p k)) = _
  rw [hz]
  rfl

end Cert.ReferenceIdeal.Own

end
-- ==== Proof.Ref.Run.lean ====
module

public import proofs.«01_k».proof.Proof.Ref.Main
public import Idealize.ShloMosaic.Lib.StableHlo.Run
public import Idealize.ShloMosaic.Adequacy

@[expose] public section

set_option maxRecDepth 16384

noncomputable section

/-! The run of the reference. -/

namespace Cert.ReferenceIdeal.Own

open Idealize.ShloMosaic Idealize.ShloMosaic.StableHlo Idealize.SL.Sem
open Cert.ReferenceIdeal Cert.ReferenceIdeal.Gen Cert.Sample Cert.Ssa

variable {F : FTy → Type} [FloatOps F]

theorem no_scoped_refs : (Finset.univ.filter fun b : Ref sig .tc => b.isScoped) = ∅ := by decide
theorem no_scoped_sems : (Finset.univ.filter fun sm : SemLoc sig => sm.isScoped .tc) = ∅ := by decide

variable (m : (ℓ : Loc nD τ sig) → Buf (Elt F) ℓ) (ρ : Dev nD → PrngReg)

/-- The reference ends, no semaphore raised, and every device's buffers hold what `Left` says, the arguments as launched. -/
theorem run : θ_run defs (onTc (τ := τ) (main (F := F))) ⟨m, fun _ => 0, ρ⟩ (fun r =>
    (∀ c : Dev nD, ∃ G : Valuation τ sig (Elt F), Left G
      ∧ (∀ b : Ref sig .tc, r.2.mem ((c.tc : Thread nD τ).loc b) = G (Proc.devRef .tc b))
      ∧ ∀ b : Ref sig .tc, num b < 3 → G (Proc.devRef .tc b) = m ((c.tc : Thread nD τ).loc b)) ∧ r.2.sem = fun _ => 0) := by
  choose ops hmain hsub hfresh hkeep hleft using fun d => (main_line (F := F) d).2
  refine (θ_run defs _ _).mono (fun r h => ⟨fun c => ⟨after (ops c) (launchContents m c), hleft c _ _ fun _ _ => rfl, h c,
    fun b hb => hkeep c _ b hb⟩, sem_eq_zero_of_no_sems (by decide) r.2⟩)
    (run_seq no_scoped_refs no_scoped_sems defs main ops hmain hsub m ρ hfresh)

/-- The reference ends, its arguments as launched and no semaphore raised. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => by
    obtain ⟨G, -, hb, ha⟩ := h.1 c
    exact ⟨(hb _).trans (ha _ (by decide)), (hb _).trans (ha _ (by decide)), (hb _).trans (ha _ (by decide))⟩, h.2⟩) (run m ρ)

end Cert.ReferenceIdeal.Own

end
-- ==== Proof.Eq.Agree.lean ====
module

public import proofs.«01_k».proof.Defs
public import proofs.«01_k».proof.Proof.Gen.Pre_drawn
public import proofs.«01_k».proof.Proof.KI.Value
public import proofs.«01_k».proof.Proof.Ref.Values
public import proofs.«01_k».proof.Proof.Ref.Run

@[expose] public section

set_option maxRecDepth 16384

noncomputable section

/-! Both programs give the same results, at the extended reals, wherever no weight is negative and the table is zero. -/

namespace Cert.Agree

open Idealize.ShloMosaic Idealize.SL.Sem
open Cert.Sample Cert.Ssa

/-- The two ways to write a pair of coordinates are one. -/
theorem pair_eq {a b : ℕ} (x : Fin a) (y : Fin b) : Idealize.ShloMosaic.ix2 x y = ValueIdx.ix2 x y := funext fun i => match i with
  | ⟨0, _⟩ => rfl
  | ⟨1, _⟩ => rfl

theorem single_eq {a : ℕ} (x : Fin a) : Idealize.ShloMosaic.ix1 x = ValueIdx.ix1 x := funext fun i => match i with
  | ⟨0, _⟩ => rfl

theorem both_ones : ∀ c d : BitVec 1, c &&& d = 1#1 → c = 1#1 ∧ d = 1#1 := by decide

/-- A bit of a comparison "at least". -/
theorem least_bit (x y : EReal) (h : FloatOps.cmpf (F := Ideal) (φ := .f32) .oge x y = 1#1) : y ≤ x := by
  have e : FloatOps.cmpf (F := Ideal) (φ := .f32) .oge x y = BitVec.ofBool (decide (y ≤ x)) := rfl
  rw [e] at h
  by_contra hn
  rw [decide_eq_false hn] at h
  exact absurd h (by decide)

theorem equal_bit (x y : BitVec 32) (h : IntOp.cmpi .eq x y = 1#1) : x = y := by
  have e : IntOp.cmpi .eq x y = BitVec.ofBool (decide (x = y)) := rfl
  rw [e] at h
  by_contra hn
  rw [decide_eq_false hn] at h
  exact absurd h (by decide)

instance : Subsingleton Cert.Pre_drawn.S_.Idx := ⟨fun a b => funext fun i => i.elim0⟩

/-- What the precondition says: no weight is negative. -/
theorem drawn_weights [Cert.Pre_drawn.Facts] (W : FVec Ideal Cert.Pre_drawn.S16384x1000 .f32) (T : IVec Cert.Pre_drawn.S16384x1000 32)
    (S : IVec Cert.Pre_drawn.S16384 32) (h : Cert.Pre_drawn.fn (F := Ideal) W T S = fun _ => 1#1) (i : Cert.Pre_drawn.S16384x1000.Idx) :
    (0 : EReal) ≤ W i := by
  have h1 := (both_ones _ _ (congrFun h ValueIdx.ix0)).1
  have h2 := least_bit _ _ (Host.reduce_andi_all _ _ _ _ _ h1 i)
  rw [ValueIdx.broadcastInDim_scalar_apply] at h2
  exact (Ideal.ofBits_zero_f32.symm.le).trans h2

/-- … and the table is zero. -/
theorem drawn_table [Cert.Pre_drawn.Facts] (W : FVec Ideal Cert.Pre_drawn.S16384x1000 .f32) (T : IVec Cert.Pre_drawn.S16384x1000 32)
    (S : IVec Cert.Pre_drawn.S16384 32) (h : Cert.Pre_drawn.fn (F := Ideal) W T S = fun _ => 1#1) (i : Cert.Pre_drawn.S16384x1000.Idx) :
    T i = 0#32 := by
  have h1 := (both_ones _ _ (congrFun h ValueIdx.ix0)).2
  have h2 := equal_bit _ _ (Host.reduce_andi_all _ _ _ _ _ h1 i)
  rw [ValueIdx.broadcastInDim_scalar_apply] at h2
  exact h2

/-- Whether two small numbers are equal, as a word. -/
theorem equal_word (k n : ℕ) (hk : k < 1000) (hn : n < 1000) :
    BitVec.setWidth 32 (IntOp.cmpi .eq (BitVec.ofNat 32 k) (BitVec.ofNat 32 n)) = if n = k then 1#32 else 0#32 := by
  rw [WordCmp.cmpi_eq_ofNat (by omega) (by omega)]
  by_cases h : n = k
  · rw [if_pos h, decide_eq_true h.symm]; rfl
  · rw [if_neg h, decide_eq_false (fun e => h e.symm)]; rfl

section Row

variable (m : (ℓ : Loc Cert.KernelIdeal.nD Cert.KernelIdeal.τ Cert.KernelIdeal.sig) → Buf (Elt Ideal) ℓ) (c : Dev Cert.KernelIdeal.nD)
  (G : Valuation Cert.ReferenceIdeal.τ Cert.ReferenceIdeal.sig (Elt Ideal))
  (h0 : Cert.ReferenceIdeal.Own.inW G = Cert.KernelIdeal.Own.argW m c) (h2 : Cert.ReferenceIdeal.Own.inS G = Cert.KernelIdeal.Own.argS m c)

include h0 h2 in
/-- The kernel's position of a row is the reference's. -/
theorem place_eq (b : Fin 16384) : Cert.KernelIdeal.Own.place m c b
    = BitVec.ofNat 32 (position (Cert.ReferenceIdeal.Own.weights G b) (Cert.ReferenceIdeal.Own.number G b)) := by
  unfold Cert.KernelIdeal.Own.place
  rw [← laneTally_eq]
  refine (laneTally_congr (w' := Cert.ReferenceIdeal.Own.weights G b) (fun k hk => ?_) _).trans ?_
  · show Cert.KernelIdeal.Own.rowW m c b k = rowOf _ b k
    unfold Cert.KernelIdeal.Own.rowW rowOf
    rw [dif_pos hk, dif_pos hk, h0, pair_eq]
  · refine congrArg (fun u => laneTally (F := Ideal) (Cert.ReferenceIdeal.Own.weights G b) u) ?_
    show _ = draw (F := Ideal) (Cert.ReferenceIdeal.Own.inS G (ValueIdx.ix1 b))
    rw [h2, single_eq]

end Row

end Cert.Agree

end
-- ==== Proof.Eq.Equation.lean ====
module

public import proofs.«01_k».proof.Proof.Eq.Agree

@[expose] public section

set_option maxRecDepth 16384

noncomputable section

/-! The equation of the two programs' results. -/

namespace Cert.Agree

open Idealize.ShloMosaic Idealize.SL.Sem
open Cert.Sample Cert.Ssa

variable [hp : Cert.Pre_drawn.Facts]
  (m : (ℓ : Loc Cert.KernelIdeal.nD Cert.KernelIdeal.τ Cert.KernelIdeal.sig) → Buf (Elt Ideal) ℓ)

/-- The first result on a device: the position drawn for every row. -/
def places (c : Dev Cert.KernelIdeal.nD) : IVec Cert.KernelIdeal.S16384 32 := fun i => Cert.KernelIdeal.Own.place m c (i 0)

/-- The second result: one at every row's position, zero elsewhere. -/
def marks (c : Dev Cert.KernelIdeal.nD) : IVec Cert.KernelIdeal.S16384x1000 32 := fun i =>
  BitVec.setWidth 32 (IntOp.cmpi .eq (BitVec.ofNat 32 (i 1).val) (Cert.KernelIdeal.Own.place m c (i 0)))

section Reference

variable (c : Dev Cert.KernelIdeal.nD) (h : Pre_KernelIdeal_drawn m)
  (G : Valuation Cert.ReferenceIdeal.τ Cert.ReferenceIdeal.sig (Elt Ideal)) (hG : Cert.ReferenceIdeal.Own.Left G)
  (h0 : Cert.ReferenceIdeal.Own.inW G = Cert.KernelIdeal.Own.argW m c)
  (h1 : Cert.ReferenceIdeal.Own.inT G = m ((c.tc : Thread Cert.KernelIdeal.nD Cert.KernelIdeal.τ).loc Cert.KernelIdeal.main_arg1))
  (h2 : Cert.ReferenceIdeal.Own.inS G = Cert.KernelIdeal.Own.argS m c)

include h h0 in
/-- No weight is negative. -/
theorem weight_nonneg (p : Fin 16384) (k : Fin 1000) : (0 : EReal) ≤ Cert.ReferenceIdeal.Own.inW G (ValueIdx.ix2 p k) := by
  rw [h0]
  exact drawn_weights _ _ _ (h c) _

include h h1 in
/-- The table is zero. -/
theorem table_zero (p : Fin 16384) (k : Fin 1000) : Cert.ReferenceIdeal.Own.inT G (ValueIdx.ix2 p k) = 0#32 := by
  rw [h1]
  exact drawn_table _ _ _ (h c) _

include h hG h0 h2 in
/-- The reference's first result is the kernel's. -/
theorem ref_places : Cert.ReferenceIdeal.Own.outP G = places m c := funext fun i => by
  obtain ⟨p, rfl⟩ : ∃ p : Fin 16384, i = ValueIdx.ix1 p := ⟨i 0, ValueIdx.eq_ix1 i⟩
  rw [Cert.ReferenceIdeal.Own.places_at G hG (weight_nonneg m c h G h0)]
  exact (place_eq m c G h0 h2 p).symm

include h hG h0 h1 h2 in
/-- The reference's second result is the kernel's. -/
theorem ref_marks : Cert.ReferenceIdeal.Own.outM G = marks m c := funext fun i => by
  obtain ⟨p, k, rfl⟩ : ∃ (p : Fin 16384) (k : Fin 1000), i = ValueIdx.ix2 p k := ⟨i 0, i 1, ValueIdx.eq_ix2 i⟩
  rw [Cert.ReferenceIdeal.Own.marks_at G hG (weight_nonneg m c h G h0) (table_zero m c h G h1)]
  show _ = BitVec.setWidth 32 (IntOp.cmpi .eq (BitVec.ofNat 32 k.val) (Cert.KernelIdeal.Own.place m c p))
  rw [place_eq m c G h0 h2 p, equal_word _ _ k.isLt (Cert.ReferenceIdeal.Own.place_lt G (weight_nonneg m c h G h0) p)]

end Reference

/-- From memories that agree on the arguments, no weight negative and the table zero, both programs end with the same
    two results and their arguments as launched. -/
theorem equation [Cert.KernelIdeal.Facts] [Cert.ReferenceIdeal.Facts] : algebraic_KernelIdeal_ReferenceIdeal_pre_drawn := by
  intro m g m' g' h hargs
  refine ⟨places m, marks m, ?_, ?_⟩
  · refine (θ_run _ _ _).mono (fun r hr c => ?_) (Cert.KernelIdeal.Own.values m g)
    obtain ⟨h3, h4, hrest⟩ := hr c
    refine ⟨funext fun i => ?_, funext fun i => ?_, hrest⟩
    · obtain ⟨p, rfl⟩ : ∃ p : Fin 16384, i = ix1 p := ⟨i 0, (ValueIdx.eq_ix1 i).trans (single_eq _).symm⟩
      exact h3 p
    · obtain ⟨p, k, rfl⟩ : ∃ (p : Fin 16384) (k : Fin 1000), i = ix2 p k := ⟨i 0, i 1, (ValueIdx.eq_ix2 i).trans (pair_eq _ _).symm⟩
      exact h4 p k
  · refine (θ_run _ _ _).mono (fun r hr c => ?_) (Cert.ReferenceIdeal.Own.run m' g')
    obtain ⟨G, hG, hb, ha⟩ := hr.1 c
    obtain ⟨e0, e1, e2⟩ := hargs c
    have a0 := ha Cert.ReferenceIdeal.main_arg0 (by decide)
    have a1 := ha Cert.ReferenceIdeal.main_arg1 (by decide)
    have a2 := ha Cert.ReferenceIdeal.main_arg2 (by decide)
    exact ⟨(hb _).trans (ref_places m c h G hG (a0.trans e0) (a2.trans e2)),
      (hb _).trans (ref_marks m c h G hG (a0.trans e0) (a1.trans e1) (a2.trans e2)),
      (hb _).trans a0, (hb _).trans a1, (hb _).trans a2⟩

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KI.Value
public import proofs.«01_k».proof.Proof.Eq.Equation
public import proofs.«01_k».proof.Proof.K.Launch
public import proofs.«01_k».proof.Proof.Gen.Pre_drawn
public import Idealize.ShloMosaic.Adequacy
public import Idealize.ShloMosaic.Init

@[expose] public section

noncomputable section

namespace Cert.Proof

open Idealize.ShloMosaic Idealize.SL.Sem Cert.Kernel

/-- All the claims: the frames of the kernel, of its idealization and of the reference, what the idealization preserves,
    and the equation of the two programs' results. -/
theorem claim : Cert.Claim :=
  ⟨Cert.Kernel.Gen.facts, Cert.KernelIdeal.Gen.facts, Cert.ReferenceIdeal.Gen.facts, Cert.Pre_drawn.Gen.facts,
    fun m ρ _ => Cert.Kernel.Own.quiet m ρ,
    fun m ρ _ => Cert.KernelIdeal.Own.quiet m ρ,
    fun m ρ _ => Cert.KernelIdeal.Own.quiet m ρ,
    fun m ρ _ => Cert.ReferenceIdeal.Own.quiet m ρ,
    fun m ρ _ => Cert.ReferenceIdeal.Own.quiet m ρ,
    trivial,
    Cert.Agree.equation⟩

end Cert.Proof

end
